-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S32768x768 : Shape := ⟨2, ![32768, 768]⟩
abbrev S768 : Shape := ⟨1, ![768]⟩
abbrev S768x32 : Shape := ⟨2, ![768, 32]⟩
abbrev S32 : Shape := ⟨1, ![32]⟩
abbrev S32x64 : Shape := ⟨2, ![32, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S32768x32 : Shape := ⟨2, ![32768, 32]⟩
abbrev S1x32 : Shape := ⟨2, ![1, 32]⟩
abbrev S32768x64 : Shape := ⟨2, ![32768, 64]⟩
abbrev S1x64 : Shape := ⟨2, ![1, 64]⟩
abbrev S32768x3 : Shape := ⟨2, ![32768, 3]⟩

class Facts : Prop where
  reducesTo_S32768x768_S32768_d1 : S32768x768.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x768_0_1 : S32768x1.BroadcastsInDim S32768x768 (![0, 1] : Fin 2 → Fin S32768x768.rank)
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  sliceFits_S32768x64_S32768x3 : S32768x64.Slices (fun _ => 0) S32768x3
  bcast_S_S768 : S_.BroadcastsInDim S768 (![] : Fin 0 → Fin S768.rank)
  bcast_S_S32 : S_.BroadcastsInDim S32 (![] : Fin 0 → Fin S32.rank)
  bcast_S_S64 : S_.BroadcastsInDim S64 (![] : Fin 0 → Fin S64.rank)
  slices_S32768x3_S32768x1_0_0 : S32768x3.Slices ![0, 0] S32768x1
  shapeCasts_S32768x1_S32768 : S32768x1.ShapeCasts S32768
  bcast_S_S32768 : S_.BroadcastsInDim S32768 (![] : Fin 0 → Fin S32768.rank)
  slices_S32768x3_S32768x1_0_1 : S32768x3.Slices ![0, 1] S32768x1
  slices_S32768x3_S32768x1_0_2 : S32768x3.Slices ![0, 2] S32768x1
  dot_S32768x768_S768x32_S32768x32_1_0_0_1_n_n_wf : DotDims.WF S32768x768 S768x32 S32768x32 [1] [0] [0] [1] [] []
  dot_S32768x32_S32x64_S32768x64_1_0_0_1_n_n_wf : DotDims.WF S32768x32 S32x64 S32768x64 [1] [0] [0] [1] [] []

variable [Facts]

def dot_S32768x768_S768x32_S32768x32_1_0_0_1_n_n : DotDims S32768x768 S768x32 S32768x32 where
  lhsContracting := [1]
  rhsContracting := [0]
  lhsNonContracting := [0]
  rhsNonContracting := [1]
  lhsBatch := []
  rhsBatch := []
  wf := dot_S32768x768_S768x32_S32768x32_1_0_0_1_n_n_wf
def dot_S32768x32_S32x64_S32768x64_1_0_0_1_n_n : DotDims S32768x32 S32x64 S32768x64 where
  lhsContracting := [1]
  rhsContracting := [0]
  lhsNonContracting := [0]
  rhsNonContracting := [1]
  lhsBatch := []
  rhsBatch := []
  wf := dot_S32768x32_S32x64_S32768x64_1_0_0_1_n_n_wf
def fn_where {F : FTy → Type} [FloatOps F] (arg0 : IVec S_ 1) (arg1 : FVec F S32768x1 .f32) (arg2 : FVec F S_ .f32) : FVec F S32768x1 .f32 :=
  let v0 : FVec F S_ .f32 := id arg2
  let v1 : FVec F S32768x1 .f32 := broadcastInDim S32768x1 ![] bcast_S_S32768x1 v0
  let v2 : FVec F S32768x1 .f32 := (fun p a b => select (broadcastInDim S32768x1 ![] bcast_S_S32768x1 p) a b) arg0 arg1 v1
  v2

def fn_var {F : FTy → Type} [FloatOps F] (arg0 : FVec F S32768x768 .f32) (arg1 : IVec S_ 32) : FVec F S32768x1 .f32 :=
  let cst : FVec F S_ .f32 := constant S_ .f32 0x00000000#32
  let v0 : FVec F S32768 .f32 := (fun x v => Host.reduceAdd x v reducesTo_S32768x768_S32768_d1 h_S_) arg0 cst
  let v1 : FVec F S32768x1 .f32 := broadcastInDim S32768x1 ![0] bcast_S32768_S32768x1_0 v0
  let cst_0 : FVec F S_ .f32 := constant S_ .f32 0x44400000#32
  let v2 : FVec F S32768x1 .f32 := broadcastInDim S32768x1 ![] bcast_S_S32768x1 cst_0
  let v3 : FVec F S32768x1 .f32 := Host.divf v1 v2
  let v4 : FVec F S32768x768 .f32 := broadcastInDim S32768x768 ![0, 1] bcast_S32768x1_S32768x768_0_1 v3
  let v5 : FVec F S32768x768 .f32 := subf arg0 v4
  let v6 : FVec F S32768x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S32768 .f32 := (fun x v => Host.reduceAdd x v reducesTo_S32768x768_S32768_d1 h_S_) v6 cst_2
  let v10 : FVec F S32768x1 .f32 := broadcastInDim S32768x1 ![0] bcast_S32768_S32768x1_0 v9
  let v11 : FVec F S32768x1 .f32 := broadcastInDim S32768x1 ![] bcast_S_S32768x1 v8
  let v12 : FVec F S32768x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S32768x1 .f32 := fn_where (F := F) v13 v12 cst_4
  v14

def fn_part2 {F : FTy → Type} [FloatOps F] (main_arg2 : FVec F S768 .f32) (main_arg4 : FVec F S32 .f32) (main_arg6 : FVec F S64 .f32) (main_values : FVec F S32768x3 .f32) (main_v36 : IVec S768 1) (main_cst_6 : FVec F S_ .f32) : IVec S768 1 × IVec S768 1 × IVec S32 1 × IVec S64 1 × IVec S32768 1 × IVec S32768 1 × IVec S32768 1 :=
  let main_v37 : FVec F S768 .f32 := broadcastInDim S768 ![] bcast_S_S768 main_cst_6
  let main_v38 : IVec S768 1 := cmpf .oeq main_arg2 main_v37
  let main_cst_7 : FVec F S_ .f32 := constant S_ .f32 0x00000000#32
  let main_v39 : FVec F S32 .f32 := broadcastInDim S32 ![] bcast_S_S32 main_cst_7
  let main_v40 : IVec S32 1 := cmpf .oeq main_arg4 main_v39
  let main_cst_8 : FVec F S_ .f32 := constant S_ .f32 0x00000000#32
  let main_v41 : FVec F S64 .f32 := broadcastInDim S64 ![] bcast_S_S64 main_cst_8
  let main_v42 : IVec S64 1 := cmpf .oeq main_arg6 main_v41
  let main_v43 : FVec F S32768x1 .f32 := (extractStridedSlice S32768x1 ![0, 0] · slices_S32768x3_S32768x1_0_0) main_values
  let main_v44 : FVec F S32768 .f32 := shapeCast S32768 main_v43 shapeCasts_S32768x1_S32768
  let main_cst_9 : FVec F S_ .f32 := constant S_ .f32 0x7F800000#32
  let main_v45 : FVec F S32768 .f32 := broadcastInDim S32768 ![] bcast_S_S32768 main_cst_9
  let main_v46 : IVec S32768 1 := cmpf .olt main_v44 main_v45
  let main_v47 : FVec F S32768x1 .f32 := (extractStridedSlice S32768x1 ![0, 0] · slices_S32768x3_S32768x1_0_0) main_values
  let main_v48 : FVec F S32768 .f32 := shapeCast S32768 main_v47 shapeCasts_S32768x1_S32768
  let main_v49 : FVec F S32768x1 .f32 := (extractStridedSlice S32768x1 ![0, 1] · slices_S32768x3_S32768x1_0_1) main_values
  let main_v50 : FVec F S32768 .f32 := shapeCast S32768 main_v49 shapeCasts_S32768x1_S32768
  let main_v51 : IVec S32768 1 := cmpf .ogt main_v48 main_v50
  let main_v52 : FVec F S32768x1 .f32 := (extractStridedSlice S32768x1 ![0, 1] · slices_S32768x3_S32768x1_0_1) main_values
  let main_v53 : FVec F S32768 .f32 := shapeCast S32768 main_v52 shapeCasts_S32768x1_S32768
  let main_v54 : FVec F S32768x1 .f32 := (extractStridedSlice S32768x1 ![0, 2] · slices_S32768x3_S32768x1_0_2) main_values
  let main_v55 : FVec F S32768 .f32 := shapeCast S32768 main_v54 shapeCasts_S32768x1_S32768
  let main_v56 : IVec S32768 1 := cmpf .ogt main_v53 main_v55
  (main_v36, main_v38, main_v40, main_v42, main_v46, main_v51, main_v56)

def fn_part1 {F : FTy → Type} [FloatOps F] (main_arg1 : FVec F S768 .f32) (main_arg2 : FVec F S768 .f32) (main_arg4 : FVec F S32 .f32) (main_arg5 : FVec F S32x64 .f32) (main_arg6 : FVec F S64 .f32) (main_v18 : FVec F S32768x32 .f32) (main_v19 : FVec F S1x32 .f32) : IVec S768 1 × IVec S768 1 × IVec S32 1 × IVec S64 1 × IVec S32768 1 × IVec S32768 1 × IVec S32768 1 :=
  let main_v20 : FVec F S32768x32 .f32 := broadcastInDim S32768x32 ![0, 1] bcast_S1x32_S32768x32_0_1 main_v19
  let main_v21 : FVec F S32768x32 .f32 := addf main_v18 main_v20
  let main_cst_2 : FVec F S_ .f32 := constant S_ .f32 0x3F000000#32
  let main_v22 : FVec F S32768x32 .f32 := broadcastInDim S32768x32 ![] bcast_S_S32768x32 main_cst_2
  let main_v23 : FVec F S32768x32 .f32 := mulf main_v22 main_v21
  let main_v24 : FVec F S32768x32 .f32 := Host.negf main_v21
  let main_cst_3 : FVec F S_ .f32 := constant S_ .f32 0x3F3504F3#32
  let main_v25 : FVec F S32768x32 .f32 := broadcastInDim S32768x32 ![] bcast_S_S32768x32 main_cst_3
  let main_v26 : FVec F S32768x32 .f32 := mulf main_v24 main_v25
  let main_v27 : FVec F S32768x32 .f32 := Host.erfc main_v26
  let main_v28 : FVec F S32768x32 .f32 := mulf main_v23 main_v27
  let main_v29 : FVec F S32768x64 .f32 := (fun l r => Host.dotGeneral dot_S32768x32_S32x64_S32768x64_1_0_0_1_n_n none l r) main_v28 main_arg5
  let main_v30 : FVec F S1x64 .f32 := broadcastInDim S1x64 ![1] bcast_S64_S1x64_1 main_arg6
  let main_v31 : FVec F S32768x64 .f32 := broadcastInDim S32768x64 ![0, 1] bcast_S1x64_S32768x64_0_1 main_v30
  let main_v32 : FVec F S32768x64 .f32 := addf main_v29 main_v31
  let main_cst_4 : FVec F S_ .f32 := constant S_ .f32 0x3F800000#32
  let main_v33 : FVec F S32768x64 .f32 := broadcastInDim S32768x64 ![] bcast_S_S32768x64 main_cst_4
  let main_v34 : FVec F S32768x64 .f32 := Host.divf main_v32 main_v33
  let main_values : FVec F S32768x3 .f32 := (fun x => (Host.topK S32768x3 1 (FloatOps.cmpfTotal .gt) x sliceFits_S32768x64_S32768x3).1) main_v34
  let main_indices : IVec S32768x3 32 := (fun x => (Host.topK S32768x3 1 (FloatOps.cmpfTotal .gt) x sliceFits_S32768x64_S32768x3).2) main_v34
  let main_cst_5 : FVec F S_ .f32 := constant S_ .f32 0x3F800000#32
  let main_v35 : FVec F S768 .f32 := broadcastInDim S768 ![] bcast_S_S768 main_cst_5
  let main_v36 : IVec S768 1 := cmpf .oeq main_arg1 main_v35
  let main_cst_6 : FVec F S_ .f32 := constant S_ .f32 0x00000000#32
  fn_part2 (F := F) main_arg2 main_arg4 main_arg6 main_values main_v36 main_cst_6

def fn {F : FTy → Type} [FloatOps F] (main_arg0 : FVec F S32768x768 .f32) (main_arg1 : FVec F S768 .f32) (main_arg2 : FVec F S768 .f32) (main_arg3 : FVec F S768x32 .f32) (main_arg4 : FVec F S32 .f32) (main_arg5 : FVec F S32x64 .f32) (main_arg6 : FVec F S64 .f32) : IVec S768 1 × IVec S768 1 × IVec S32 1 × IVec S64 1 × IVec S32768 1 × IVec S32768 1 × IVec S32768 1 :=
  let main_cst : FVec F S_ .f32 := constant S_ .f32 0x00000000#32
  let main_v0 : FVec F S32768 .f32 := (fun x v => Host.reduceAdd x v reducesTo_S32768x768_S32768_d1 h_S_) main_arg0 main_cst
  let main_v1 : FVec F S32768x1 .f32 := broadcastInDim S32768x1 ![0] bcast_S32768_S32768x1_0 main_v0
  let main_cst_0 : FVec F S_ .f32 := constant S_ .f32 0x44400000#32
  let main_v2 : FVec F S32768x1 .f32 := broadcastInDim S32768x1 ![] bcast_S_S32768x1 main_cst_0
  let main_v3 : FVec F S32768x1 .f32 := Host.divf main_v1 main_v2
  let main_c : IVec S_ 32 := constantI S_ 32 0#32
  let main_v4 : FVec F S32768x1 .f32 := fn_var (F := F) main_arg0 main_c
  let main_v5 : FVec F S32768x768 .f32 := broadcastInDim S32768x768 ![0, 1] bcast_S32768x1_S32768x768_0_1 main_v3
  let main_v6 : FVec F S32768x768 .f32 := subf main_arg0 main_v5
  let main_cst_1 : FVec F S_ .f32 := constant S_ .f32 0x3727C5AC#32
  let main_v7 : FVec F S32768x1 .f32 := broadcastInDim S32768x1 ![] bcast_S_S32768x1 main_cst_1
  let main_v8 : FVec F S32768x1 .f32 := addf main_v4 main_v7
  let main_v9 : FVec F S32768x1 .f32 := Host.sqrt main_v8
  let main_v10 : FVec F S32768x768 .f32 := broadcastInDim S32768x768 ![0, 1] bcast_S32768x1_S32768x768_0_1 main_v9
  let main_v11 : FVec F S32768x768 .f32 := Host.divf main_v6 main_v10
  let main_v12 : FVec F S1x768 .f32 := broadcastInDim S1x768 ![1] bcast_S768_S1x768_1 main_arg1
  let main_v13 : FVec F S32768x768 .f32 := broadcastInDim S32768x768 ![0, 1] bcast_S1x768_S32768x768_0_1 main_v12
  let main_v14 : FVec F S32768x768 .f32 := mulf main_v11 main_v13
  let main_v15 : FVec F S1x768 .f32 := broadcastInDim S1x768 ![1] bcast_S768_S1x768_1 main_arg2
  let main_v16 : FVec F S32768x768 .f32 := broadcastInDim S32768x768 ![0, 1] bcast_S1x768_S32768x768_0_1 main_v15
  let main_v17 : FVec F S32768x768 .f32 := addf main_v14 main_v16
  let main_v18 : FVec F S32768x32 .f32 := (fun l r => Host.dotGeneral dot_S32768x768_S768x32_S32768x32_1_0_0_1_n_n none l r) main_v17 main_arg3
  let main_v19 : FVec F S1x32 .f32 := broadcastInDim S1x32 ![1] bcast_S32_S1x32_1 main_arg4
  fn_part1 (F := F) main_arg1 main_arg2 main_arg4 main_arg5 main_arg6 main_v18 main_v19
-- ==== Kernel.lean ====
abbrev S32768x768 : Shape := ⟨2, ![32768, 768]⟩
abbrev S768 : Shape := ⟨1, ![768]⟩
abbrev S768x32 : Shape := ⟨2, ![768, 32]⟩
abbrev S32 : Shape := ⟨1, ![32]⟩
abbrev S32x64 : Shape := ⟨2, ![32, 64]⟩
abbrev S64 : Shape := ⟨1, ![64]⟩
abbrev S32768x64 : Shape := ⟨2, ![32768, 64]⟩
abbrev S4096x768 : Shape := ⟨2, ![4096, 768]⟩
abbrev S4096x64 : Shape := ⟨2, ![4096, 64]⟩
abbrev S4096 : Shape := ⟨1, ![4096]⟩
abbrev S4096x1 : Shape := ⟨2, ![4096, 1]⟩
abbrev S4096x32 : Shape := ⟨2, ![4096, 32]⟩

abbrev nBuf : Space → Nat
  | .hbm => 9
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S768, .f32⟩
  | .hbm, ⟨2, _⟩ => ⟨S768, .f32⟩
  | .hbm, ⟨3, _⟩ => ⟨S768x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S32768x64, .f32⟩
  | .hbm, ⟨8, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S768x32, .f32⟩
  | .local _ .vmem, ⟨3, _⟩ => ⟨S32x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x768 : Shape := ⟨2, ![32768, 768]⟩
abbrev S768 : Shape := ⟨1, ![768]⟩
abbrev S768x32 : Shape := ⟨2, ![768, 32]⟩
abbrev S32 : Shape := ⟨1, ![32]⟩
abbrev S32x64 : Shape := ⟨2, ![32, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S32768x32 : Shape := ⟨2, ![32768, 32]⟩
abbrev S1x32 : Shape := ⟨2, ![1, 32]⟩
abbrev S32768x64 : Shape := ⟨2, ![32768, 64]⟩
abbrev S1x64 : Shape := ⟨2, ![1, 64]⟩
abbrev S32768x2 : Shape := ⟨2, ![32768, 2]⟩
abbrev S32768x2x1 : Shape := ⟨3, ![32768, 2, 1]⟩
abbrev S32768x2x2 : Shape := ⟨3, ![32768, 2, 2]⟩

abbrev nBuf : Space → Nat
  | .hbm => 116
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768, .f32⟩
  | .hbm, ⟨2, _⟩ => ⟨S768, .f32⟩
  | .hbm, ⟨3, _⟩ => ⟨S768x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .i32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x768, .f32⟩
  | .hbm, ⟨21, _⟩ => ⟨S32768x768, .f32⟩
  | .hbm, ⟨22, _⟩ => ⟨S32768x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x768, .f32⟩
  | .hbm, ⟨38, _⟩ => ⟨S32768x768, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x768, .f32⟩
  | .hbm, ⟨44, _⟩ => ⟨S32768x768, .f32⟩
  | .hbm, ⟨45, _⟩ => ⟨S1x768, .f32⟩
  | .hbm, ⟨46, _⟩ => ⟨S32768x768, .f32⟩
  | .hbm, ⟨47, _⟩ => ⟨S32768x768, .f32⟩
  | .hbm, ⟨48, _⟩ => ⟨S1x768, .f32⟩
  | .hbm, ⟨49, _⟩ => ⟨S32768x768, .f32⟩
  | .hbm, ⟨50, _⟩ => ⟨S32768x768, .f32⟩
  | .hbm, ⟨51, _⟩ => ⟨S32768x32, .f32⟩
  | .hbm, ⟨52, _⟩ => ⟨S1x32, .f32⟩
  | .hbm, ⟨53, _⟩ => ⟨S32768x32, .f32⟩
  | .hbm, ⟨54, _⟩ => ⟨S32768x32, .f32⟩
  | .hbm, ⟨55, _⟩ => ⟨S_, .f32⟩
  | .hbm, ⟨56, _⟩ => ⟨S32768x32, .f32⟩
  | .hbm, ⟨57, _⟩ => ⟨S32768x32, .f32⟩
  | .hbm, ⟨58, _⟩ => ⟨S32768x32, .f32⟩
  | .hbm, ⟨59, _⟩ => ⟨S_, .f32⟩
  | .hbm, ⟨60, _⟩ => ⟨S32768x32, .f32⟩
  | .hbm, ⟨61, _⟩ => ⟨S32768x32, .f32⟩
  | .hbm, ⟨62, _⟩ => ⟨S32768x32, .f32⟩
  | .hbm, ⟨63, _⟩ => ⟨S32768x32, .f32⟩
  | .hbm, ⟨64, _⟩ => ⟨S32768x64, .f32⟩
  | .hbm, ⟨65, _⟩ => ⟨S1x64, .f32⟩
  | .hbm, ⟨66, _⟩ => ⟨S32768x64, .f32⟩
  | .hbm, ⟨67, _⟩ => ⟨S32768x64, .f32⟩
  | .hbm, ⟨68, _⟩ => ⟨S_, .f32⟩
  | .hbm, ⟨69, _⟩ => ⟨S32768x64, .f32⟩
  | .hbm, ⟨70, _⟩ => ⟨S32768x64, .f32⟩
  | .hbm, ⟨71, _⟩ => ⟨S32768x2, .f32⟩
  | .hbm, ⟨72, _⟩ => ⟨S32768x2, .i32⟩
  | .hbm, ⟨73, _⟩ => ⟨S_, .i1⟩
  | .hbm, ⟨74, _⟩ => ⟨S32768x64, .i1⟩
  | .hbm, ⟨75, _⟩ => ⟨S32768, .i32⟩
  | .hbm, ⟨76, _⟩ => ⟨S32768x1, .i32⟩
  | .hbm, ⟨77, _⟩ => ⟨S_, .i32⟩
  | .hbm, ⟨78, _⟩ => ⟨S32768x1, .i32⟩
  | .hbm, ⟨79, _⟩ => ⟨S32768x1, .i1⟩
  | .hbm, ⟨80, _⟩ => ⟨S_, .i32⟩
  | .hbm, ⟨81, _⟩ => ⟨S32768x1, .i32⟩
  | .hbm, ⟨82, _⟩ => ⟨S32768x1, .i32⟩
  | .hbm, ⟨83, _⟩ => ⟨S32768x1, .i32⟩
  | .hbm, ⟨84, _⟩ => ⟨S_, .i32⟩
  | .hbm, ⟨85, _⟩ => ⟨S32768x2, .i32⟩
  | .hbm, ⟨86, _⟩ => ⟨S32768x2, .i1⟩
  | .hbm, ⟨87, _⟩ => ⟨S_, .i32⟩
  | .hbm, ⟨88, _⟩ => ⟨S32768x2, .i32⟩
  | .hbm, ⟨89, _⟩ => ⟨S32768x2, .i32⟩
  | .hbm, ⟨90, _⟩ => ⟨S32768x2, .i32⟩
  | .hbm, ⟨91, _⟩ => ⟨S32768x2, .i32⟩
  | .hbm, ⟨92, _⟩ => ⟨S32768x2x1, .i32⟩
  | .hbm, ⟨93, _⟩ => ⟨S32768x2x1, .i32⟩
  | .hbm, ⟨94, _⟩ => ⟨S32768x2x2, .i32⟩
  | .hbm, ⟨95, _⟩ => ⟨S_, .i1⟩
  | .hbm, ⟨96, _⟩ => ⟨S32768x2, .i1⟩
  | .hbm, ⟨97, _⟩ => ⟨S32768x64, .i1⟩
  | .hbm, ⟨98, _⟩ => ⟨S_, .f32⟩
  | .hbm, ⟨99, _⟩ => ⟨S_, .f32⟩
  | .hbm, ⟨100, _⟩ => ⟨S32768x64, .f32⟩
  | .hbm, ⟨101, _⟩ => ⟨S32768x64, .f32⟩
  | .hbm, ⟨102, _⟩ => ⟨S_, .f32⟩
  | .hbm, ⟨103, _⟩ => ⟨S32768, .f32⟩
  | .hbm, ⟨104, _⟩ => ⟨S_, .f32⟩
  | .hbm, ⟨105, _⟩ => ⟨S32768, .f32⟩
  | .hbm, ⟨106, _⟩ => ⟨S32768, .f32⟩
  | .hbm, ⟨107, _⟩ => ⟨S32768x1, .f32⟩
  | .hbm, ⟨108, _⟩ => ⟨S32768x64, .f32⟩
  | .hbm, ⟨109, _⟩ => ⟨S32768x64, .f32⟩
  | .hbm, ⟨110, _⟩ => ⟨S32768x64, .f32⟩
  | .hbm, ⟨111, _⟩ => ⟨S_, .f32⟩
  | .hbm, ⟨112, _⟩ => ⟨S32768, .f32⟩
  | .hbm, ⟨113, _⟩ => ⟨S32768x1, .f32⟩
  | .hbm, ⟨114, _⟩ => ⟨S32768x64, .f32⟩
  | .hbm, ⟨115, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_v34 : Ref sig .tc := ⟨.hbm, 70, rfl⟩
abbrev main_values : Ref sig .tc := ⟨.hbm, 71, rfl⟩
abbrev main_indices : Ref sig .tc := ⟨.hbm, 72, rfl⟩
abbrev main_c_5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_6 : Ref sig .tc := ⟨.hbm, 77, rfl⟩
abbrev main_v38 : Ref sig .tc := ⟨.hbm, 78, rfl⟩
abbrev main_v39 : Ref sig .tc := ⟨.hbm, 79, rfl⟩
abbrev main_c_7 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_8 : Ref sig .tc := ⟨.hbm, 84, rfl⟩
abbrev main_v43 : Ref sig .tc := ⟨.hbm, 85, rfl⟩
abbrev main_v44 : Ref sig .tc := ⟨.hbm, 86, rfl⟩
abbrev main_c_9 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_10 : Ref sig .tc := ⟨.hbm, 95, rfl⟩
abbrev main_v52 : Ref sig .tc := ⟨.hbm, 96, rfl⟩
abbrev main_v53 : Ref sig .tc := ⟨.hbm, 97, rfl⟩
abbrev main_cst_11 : Ref sig .tc := ⟨.hbm, 98, rfl⟩
abbrev main_call1_v0 : Ref sig .tc := ⟨.hbm, 99, rfl⟩
abbrev main_call1_v1 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_cst_13 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_14 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩

abbrev nD : Nat := 1
abbrev τ : Topo := Topo.v7x

variable {F : FTy → Type} [FloatOps F]
-- ==== Proof.Router.Row.lean ====
/- One row of the router, as functions of its 768 entries and the two weight matrices: what the kernel computes
   and what the reference computes, in the extended reals, before any layout. Nothing here mentions an array's
   blocks or a program. -/
module

public import Idealize.ShloMosaic.PureOps.Ideal
public import Idealize.ShloMosaic.PureOps.Ideal.Laws

@[expose] public section

noncomputable section

namespace Cert.Router

open Idealize.ShloMosaic
open scoped BigOperators

/-- The literal 768, the number of entries of a row. -/
abbrev width : EReal := Ideal.ofBits .f32 0x44400000#32
/-- The literal added to the variance under the root. -/
abbrev eps : EReal := Ideal.ofBits .f32 0x3727C5AC#32
/-- The literal one half. -/
abbrev half : EReal := Ideal.ofBits .f32 0x3F000000#32
/-- The literal that stands for 1/√2 in both programs: the same word in each. -/
abbrev invSqrt2 : EReal := Ideal.ofBits .f32 0x3F3504F3#32

/-- The mean of a row. -/
def mean (x : Fin 768 → EReal) : EReal := Ideal.div (∑ k, x k) width

/-- The kernel's variance: the mean of the squares less the square of the mean. -/
def varK (x : Fin 768 → EReal) : EReal := Ideal.div (∑ k, x k * x k) width - mean x * mean x

/-- The reference's variance: the mean of the squares of the distances from the mean. -/
def varR (x : Fin 768 → EReal) : EReal := Ideal.div (∑ k, (x k - mean x) * (x k - mean x)) width

/-- The kernel's normalised entry: the distance from the mean times the reciprocal root. -/
def normK (x : Fin 768 → EReal) (k : Fin 768) : EReal := (x k - mean x) * Ideal.rsqrt (varK x + eps)

/-- The reference's normalised entry, before its scale and shift: the distance from the mean over the root. -/
def normR (x : Fin 768 → EReal) (k : Fin 768) : EReal := Ideal.div (x k - mean x) (Ideal.sqrt (varR x + eps))

/-- The kernel's activation, by `erf`. -/
def geluK (h : EReal) : EReal := half * h * (1 + Ideal.erf (h * invSqrt2))

/-- The reference's activation, by `erfc` of the negated argument. -/
def geluR (h : EReal) : EReal := half * h * Ideal.erfc (-h * invSqrt2)

/-- A normalised row through the two matrices with activation `act` between them: the logit of expert `l`. -/
def mlp (act : EReal → EReal) (n : Fin 768 → EReal) (w₁ : Fin 768 → Fin 32 → EReal) (w₂ : Fin 32 → Fin 64 → EReal)
    (l : Fin 64) : EReal :=
  ∑ j, act (∑ k, n k * w₁ k j) * w₂ j l

/-- The kernel's logits of a row. -/
def logitsK (x : Fin 768 → EReal) (w₁ : Fin 768 → Fin 32 → EReal) (w₂ : Fin 32 → Fin 64 → EReal) : Fin 64 → EReal :=
  mlp geluK (normK x) w₁ w₂

/-- The reference's logits of a row at unit scale and zero shift and biases. -/
def logitsR (x : Fin 768 → EReal) (w₁ : Fin 768 → Fin 32 → EReal) (w₂ : Fin 32 → Fin 64 → EReal) : Fin 64 → EReal :=
  mlp geluR (normR x) w₁ w₂

end Cert.Router
-- ==== Proof.Router.Selection.lean ====
/- The choice of two experts out of 64 and the weights they get, over one row of logits, in the extended reals: the
   kernel's rounds of "the greatest, then the greatest of the rest" with the two-term weights, and the reference's
   softmax over the row with every entry but two at −∞. Where two places hold the strictly greatest entries, below
   +∞, the two agree. -/
module

public import Idealize.ShloMosaic.PureOps.Ideal
public import Idealize.ShloMosaic.PureOps.Ideal.Laws
public import Mathlib.Data.Finset.Fold
public import Mathlib.Data.Finset.Max
public import Mathlib.Tactic.Linarith
public import Mathlib.Tactic.Positivity

@[expose] public section

noncomputable section

namespace Cert.Router

open Idealize.ShloMosaic
open scoped BigOperators

/-- The literal −∞. -/
abbrev neg : EReal := Ideal.ofBits .f32 0xFF800000#32

/-- The word of −∞ is the least extended real. -/
theorem neg_eq : neg = ⊥ := by simp [neg, Ideal.ofBits, Ideal.ieee]

/-- The greatest entry of a row. -/
def top (f : Fin 64 → EReal) : EReal := Finset.univ.fold max neg f

/-- The row with every entry that equals the greatest put at −∞. -/
def rest (f : Fin 64 → EReal) (l : Fin 64) : EReal := if f l = top f then neg else f l

/-- The greatest entry of the rest. -/
def second (f : Fin 64 → EReal) : EReal := Finset.univ.fold max neg (rest f)

/-- The kernel's masked row: an entry stays where it equals the greatest or, in the rest, the second. -/
def keepK (f : Fin 64 → EReal) (l : Fin 64) : EReal :=
  if f l = top f ∨ rest f l = second f then f l else neg

/-- The kernel's weight of the greatest entry. -/
def firstK (f : Fin 64 → EReal) : EReal := Ideal.div 1 (1 + Ideal.exp (second f - top f))

/-- The kernel's row of weights. -/
def probK (f : Fin 64 → EReal) (l : Fin 64) : EReal :=
  if f l = top f then firstK f else if rest f l = second f then 1 - firstK f else 0

/-- The row with every entry but those at places `a` and `b` put at −∞. -/
def keepR (f : Fin 64 → EReal) (a b l : Fin 64) : EReal := if l = a ∨ l = b then f l else neg

/-- The exponential of a row's entry less the greatest entry. -/
def expR (g : Fin 64 → EReal) (l : Fin 64) : EReal := Ideal.exp (g l - max neg (top g))

/-- The softmax of a row. -/
def softmaxR (g : Fin 64 → EReal) (l : Fin 64) : EReal := Ideal.div (expR g l) (∑ k, expR g k)

/-- Places `a` and `b` hold the two strictly greatest entries of the row, both of them real. -/
structure TwoGreatest (f : Fin 64 → EReal) (a b : Fin 64) : Prop where
  /-- The second greatest is below the greatest. -/
  lt : f b < f a
  /-- The greatest is not +∞. -/
  finite : f a < ⊤
  /-- Every other entry is below the second greatest. -/
  others : ∀ l, l ≠ a → l ≠ b → f l < f b

variable {f : Fin 64 → EReal} {a b : Fin 64}

/-- The fold of `max` from −∞ over a row is the entry that no entry exceeds. -/
theorem fold_max_eq (g : Fin 64 → EReal) (i : Fin 64) (h : ∀ l, g l ≤ g i) : Finset.univ.fold max neg g = g i := by
  refine le_antisymm ?_ ?_
  · rw [Finset.fold_max_le]
    exact ⟨by rw [neg_eq]; exact bot_le, fun l _ => h l⟩
  · rw [Finset.le_fold_max]
    exact Or.inr ⟨i, Finset.mem_univ i, le_rfl⟩

namespace TwoGreatest

/-- The two places differ. -/
theorem ne (h : TwoGreatest f a b) : a ≠ b := fun e => absurd h.lt (by rw [e]; exact lt_irrefl _)

/-- The second greatest entry is above −∞, there being a third place. -/
theorem bot_lt (h : TwoGreatest f a b) : ⊥ < f b := by
  obtain ⟨l, hl⟩ : ∃ l : Fin 64, l ∉ ({a, b} : Finset (Fin 64)) := by
    by_contra hc
    have hu : (Finset.univ : Finset (Fin 64)) ⊆ {a, b} := fun l _ => by
      by_contra hl; exact hc ⟨l, hl⟩
    have := Finset.card_le_card hu
    have h2 : ({a, b} : Finset (Fin 64)).card ≤ 2 := Finset.card_le_two
    rw [Finset.card_univ, Fintype.card_fin] at this
    omega
  simp only [Finset.mem_insert, Finset.mem_singleton, not_or] at hl
  exact lt_of_le_of_lt bot_le (h.others l hl.1 hl.2)

/-- The two greatest entries as reals. -/
theorem reals (h : TwoGreatest f a b) : ∃ p q : ℝ, f a = (p : EReal) ∧ f b = (q : EReal) := by
  refine ⟨(f a).toReal, (f b).toReal, (EReal.coe_toReal h.finite.ne ?_).symm, (EReal.coe_toReal ?_ h.bot_lt.ne').symm⟩
  · exact (h.bot_lt.trans h.lt).ne'
  · exact (h.lt.trans h.finite).ne

/-- No entry exceeds the one at `a`. -/
theorem le (h : TwoGreatest f a b) (l : Fin 64) : f l ≤ f a := by
  by_cases ha : l = a
  · rw [ha]
  by_cases hb : l = b
  · rw [hb]; exact h.lt.le
  exact (h.others l ha hb).le.trans h.lt.le

/-- The greatest entry is the one at `a`. -/
theorem top_eq (h : TwoGreatest f a b) : top f = f a := fold_max_eq f a h.le

/-- An entry equals the greatest at `a` alone. -/
theorem eq_top_iff (h : TwoGreatest f a b) (l : Fin 64) : f l = top f ↔ l = a := by
  rw [h.top_eq]
  refine ⟨fun e => ?_, fun e => by rw [e]⟩
  by_contra ha
  by_cases hb : l = b
  · exact absurd h.lt (by rw [← e, hb]; exact lt_irrefl _)
  · exact absurd ((h.others l ha hb).trans h.lt) (by rw [e]; exact lt_irrefl _)

/-- The rest of the row: −∞ at `a`, the entries elsewhere. -/
theorem rest_eq (h : TwoGreatest f a b) (l : Fin 64) : rest f l = if l = a then ⊥ else f l := by
  simp only [rest, h.eq_top_iff, neg_eq]

/-- The greatest of the rest is the entry at `b`. -/
theorem second_eq (h : TwoGreatest f a b) : second f = f b := by
  have hb : rest f b = f b := by rw [h.rest_eq, if_neg h.ne.symm]
  rw [second, ← hb]
  refine fold_max_eq _ b fun l => ?_
  rw [hb, h.rest_eq]
  split
  · exact bot_le
  · rename_i ha
    by_cases e : l = b
    · rw [e]
    · exact (h.others l ha e).le

/-- An entry of the rest equals the second greatest at `b` alone. -/
theorem eq_second_iff (h : TwoGreatest f a b) (l : Fin 64) : rest f l = second f ↔ l = b := by
  rw [h.second_eq, h.rest_eq]
  by_cases ha : l = a
  · rw [if_pos ha]
    refine ⟨fun e => absurd h.bot_lt (by rw [← e]; exact lt_irrefl _), fun e => absurd (ha.symm.trans e) h.ne⟩
  · rw [if_neg ha]
    refine ⟨fun e => ?_, fun e => by rw [e]⟩
    by_contra hb
    exact absurd (h.others l ha hb) (by rw [e]; exact lt_irrefl _)

/-- The kernel's masked row is the reference's. -/
theorem keep_eq (h : TwoGreatest f a b) (l : Fin 64) : keepK f l = keepR f a b l := by
  simp only [keepK, keepR, h.eq_top_iff, h.eq_second_iff]

/-- The greatest entry of the masked row. -/
theorem top_keep (h : TwoGreatest f a b) : top (keepR f a b) = f a := by
  have ha : keepR f a b a = f a := by rw [keepR, if_pos (Or.inl rfl)]
  rw [top, ← ha]
  refine fold_max_eq _ a fun l => ?_
  rw [ha, keepR]
  split
  · exact h.le l
  · rw [neg_eq]; exact bot_le

/-- The exponentials of the masked row: one at `a`, that of the difference at `b`, zero elsewhere. -/
theorem exp_keep (h : TwoGreatest f a b) {p q : ℝ} (hp : f a = (p : EReal)) (hq : f b = (q : EReal)) (l : Fin 64) :
    expR (keepR f a b) l = (((if l = a then 1 else 0) + (if l = b then Real.exp (q - p) else 0) : ℝ) : EReal) := by
  rw [expR, h.top_keep, neg_eq, max_eq_right bot_le, hp, keepR]
  by_cases ha : l = a
  · subst ha
    rw [if_pos (Or.inl rfl), hp, ← EReal.coe_sub, Ideal.exp_coe, if_pos rfl, if_neg h.ne]
    simp
  by_cases hb : l = b
  · subst hb
    rw [if_pos (Or.inr rfl), hq, ← EReal.coe_sub, Ideal.exp_coe, if_neg ha, if_pos rfl, zero_add]
  · rw [if_neg (by tauto), if_neg ha, if_neg hb, neg_eq, EReal.bot_sub, Ideal.exp_bot, add_zero, EReal.coe_zero]

/-- The exponentials of the masked row add up to one plus that of the difference. -/
theorem sum_keep (h : TwoGreatest f a b) {p q : ℝ} (hp : f a = (p : EReal)) (hq : f b = (q : EReal)) :
    ∑ l, expR (keepR f a b) l = ((1 + Real.exp (q - p) : ℝ) : EReal) := by
  simp only [h.exp_keep hp hq]
  have key : ∀ g : Fin 64 → ℝ, ∑ l, (g l : EReal) = ((∑ l, g l : ℝ) : EReal) := fun g => by
    have hs : ∀ s : Finset (Fin 64), ∑ l ∈ s, (g l : EReal) = ((∑ l ∈ s, g l : ℝ) : EReal) := fun s => by
      induction s using Finset.induction_on with
      | empty => simp
      | insert i s hi ih => rw [Finset.sum_insert hi, Finset.sum_insert hi, ih, EReal.coe_add]
    exact hs _
  rw [key, Finset.sum_add_distrib, Finset.sum_ite_eq', Finset.sum_ite_eq', if_pos (Finset.mem_univ _),
    if_pos (Finset.mem_univ _)]

/-- The kernel's weight of the greatest entry, as a real. -/
theorem firstK_eq (h : TwoGreatest f a b) {p q : ℝ} (hp : f a = (p : EReal)) (hq : f b = (q : EReal)) :
    firstK f = ((1 / (1 + Real.exp (q - p)) : ℝ) : EReal) := by
  have hpos : (1 : ℝ) + Real.exp (q - p) ≠ 0 := by positivity
  rw [firstK, h.second_eq, h.top_eq, hp, hq, ← EReal.coe_sub, Ideal.exp_coe, ← EReal.coe_one, ← EReal.coe_add,
    Ideal.div_coe hpos, ← EReal.coe_mul, one_mul]

/-- The kernel's weights are the softmax of the masked row. -/
theorem prob_eq (h : TwoGreatest f a b) (l : Fin 64) : probK f l = softmaxR (keepR f a b) l := by
  obtain ⟨p, q, hp, hq⟩ := h.reals
  have hpos : (1 : ℝ) + Real.exp (q - p) ≠ 0 := by positivity
  rw [softmaxR, h.sum_keep hp hq, h.exp_keep hp hq, Ideal.div_coe hpos, ← EReal.coe_mul, probK]
  simp only [h.eq_top_iff, h.eq_second_iff, h.firstK_eq hp hq]
  by_cases ha : l = a
  · subst ha
    rw [if_pos rfl, if_pos rfl, if_neg h.ne]
    congr 1; ring
  by_cases hb : l = b
  · subst hb
    rw [if_neg ha, if_neg ha, if_pos rfl, if_pos rfl, ← EReal.coe_one, ← EReal.coe_sub]
    congr 1; field_simp; ring
  · rw [if_neg ha, if_neg ha, if_neg hb, if_neg hb]
    simp

end TwoGreatest

end Cert.Router
-- ==== Proof.Router.KernelRow.lean ====
/- The kernel's block of 4096 rows read at a row and an expert: the logits, the masked logits and the weights are the
   row functions of the block's own row. -/
module

public import proofs.«01_k».proof.Proof.Gen.KernelIdeal.Value
public import proofs.«01_k».proof.Proof.Router.Row
public import proofs.«01_k».proof.Proof.Router.Selection
public import Idealize.ShloMosaic.Lib.Pointwise

@[expose] public section

noncomputable section

namespace Cert.Router

open Idealize.ShloMosaic Cert.KernelIdeal Cert.KernelIdeal.Gen
open scoped BigOperators

/-- The block's logits at a row and an expert are the kernel's logits of that row. -/
theorem pay4_at (P0 : Vec Ideal S4096x768 .f32) (P1 : Vec Ideal S768x32 .f32) (P2 : Vec Ideal S32x64 .f32)
    (r : Fin 4096) (l : Fin 64) :
    k0_pay4 P0 P1 P2 (ix2 r l)
      = logitsK (fun k => P0 (ix2 r k)) (fun k j => P1 (ix2 k j)) (fun j l => P2 (ix2 j l)) l := by
  pointwise [k0_pay4]
  rfl

/-- An index with the coordinates of `(r, l)` is `(r, l)`. -/
theorem idx_eq {r : Fin 4096} {l : Fin 64} (i : S4096x64.Idx) (h0 : i 0 = r) (h1 : i 1 = l) : i = ix2 r l := by
  funext a
  match a with
  | ⟨0, _⟩ => exact h0
  | ⟨1, _⟩ => exact h1

/-- A choice by the "or" of two decided bits is a choice by the disjunction. -/
theorem select_or (p q : Prop) [Decidable p] [Decidable q] (u v : EReal) :
    Scalar.select (IntOp.ori (BitVec.ofBool (decide p)) (BitVec.ofBool (decide q))) u v = if p ∨ q then u else v := by
  by_cases hp : p <;> by_cases hq : q <;> simp [hp, hq, Scalar.select, IntOp.ori]

/-- The block's masked logits at a row and an expert: the kernel's masked row. -/
theorem E4_at (P0 : Vec Ideal S4096x768 .f32) (P1 : Vec Ideal S768x32 .f32) (P2 : Vec Ideal S32x64 .f32)
    (r : Fin 4096) (l : Fin 64) (L : Vec Ideal S4096x64 .f32) (hL : k0_pay4 P0 P1 P2 = L) :
    Value.E4 P0 P1 P2 (ix2 r l) = keepK (fun j => L (ix2 r j)) l := by
  unfold Value.E4
  rw [hL]
  pointwise []
  rw [select_or, idx_eq (Value.ix4_0 (ix2 r l)) rfl rfl, idx_eq (Value.ix4_2 (ix2 r l)) rfl rfl,
    idx_eq (Value.ix4_4 (ix2 r l)) rfl rfl, idx_eq (Value.ix4_6 (ix2 r l)) rfl rfl]
  rfl

/-- The block's weights at a row and an expert: the kernel's row of weights. -/
theorem E3_at (P0 : Vec Ideal S4096x768 .f32) (P1 : Vec Ideal S768x32 .f32) (P2 : Vec Ideal S32x64 .f32)
    (r : Fin 4096) (l : Fin 64) (L : Vec Ideal S4096x64 .f32) (hL : k0_pay4 P0 P1 P2 = L) :
    Value.E3 P0 P1 P2 (ix2 r l) = probK (fun j => L (ix2 r j)) l := by
  unfold Value.E3
  rw [hL]
  pointwise []
  rw [idx_eq (Value.ix3_0 (ix2 r l)) rfl rfl, idx_eq (Value.ix3_4 (ix2 r l)) rfl rfl,
    idx_eq (Value.ix3_6 (ix2 r l)) rfl rfl]
  rfl

end Cert.Router
-- ==== Proof.Router.KernelArray.lean ====
/- The kernel's two result arrays after its run, each as one function of the argument arrays: row `r` of either is the
   row function of row `r` of the input and the two weight matrices. The kernel works on eight blocks of 4096 rows; a
   block of a result is the body's value at the same block of the input, the weights being read whole each time. -/
module

public import proofs.«01_k».proof.Proof.Router.KernelRow

@[expose] public section

noncomputable section

namespace Cert.Router

open Idealize.ShloMosaic Idealize.ShloMosaic.TcCoe Idealize.SL.Sem
open Cert.KernelIdeal Cert.KernelIdeal.Gen Cert.KernelIdeal.Value

/-- The kernel's logits of row `r` of the input. -/
def rowK (x : Vec Ideal S32768x768 .f32) (w₁ : Vec Ideal S768x32 .f32) (w₂ : Vec Ideal S32x64 .f32) (r : Fin 32768) :
    Fin 64 → EReal :=
  logitsK (fun k => x (ix2 r k)) (fun k j => w₁ (ix2 k j)) (fun j l => w₂ (ix2 j l))

/-- The array of weights: each row the kernel's weights of that row's logits. -/
def probsK (x : Vec Ideal S32768x768 .f32) (w₁ : Vec Ideal S768x32 .f32) (w₂ : Vec Ideal S32x64 .f32) :
    Vec Ideal S32768x64 .f32 := fun i => probK (rowK x w₁ w₂ (i 0)) (i 1)

/-- The array of masked logits: each row the kernel's masked row of that row's logits. -/
def maskedK (x : Vec Ideal S32768x768 .f32) (w₁ : Vec Ideal S768x32 .f32) (w₂ : Vec Ideal S32x64 .f32) :
    Vec Ideal S32768x64 .f32 := fun i => keepK (rowK x w₁ w₂ (i 0)) (i 1)

/-- The corner of a block is at zero on both axes. -/
theorem corner_zero : (![0, 0] : Fin 2 → Nat) = fun _ => 0 := funext fun a => by fin_cases a <;> rfl

/-- What the body leaves in a block of the weights is `E3` of the blocks it reads. -/
theorem out3_eq (x0 : Vec Ideal S4096x768 .f32) (x1 : Vec Ideal S768x32 .f32) (x2 : Vec Ideal S32x64 .f32) :
    out0_3 x0 x1 x2 = E3 x0 x1 x2 := by
  funext y
  unfold out0_3 k0_pay12 k0_pay11 k0_pay10
  rw [View.ld_unit_zero corner_zero, View.ld_unit_zero corner_zero, View.ld_unit_zero corner_zero]
  exact canon3_eq x0 x1 x2 y

/-- What the body leaves in a block of the masked logits is `E4` of the blocks it reads. -/
theorem out4_eq (x0 : Vec Ideal S4096x768 .f32) (x1 : Vec Ideal S768x32 .f32) (x2 : Vec Ideal S32x64 .f32) :
    out0_4 x0 x1 x2 = E4 x0 x1 x2 := by
  funext y
  unfold out0_4 k0_pay12 k0_pay11 k0_pay10
  rw [View.ld_unit_zero corner_zero, View.ld_unit_zero corner_zero, View.ld_unit_zero corner_zero]
  exact canon4_eq x0 x1 x2 y

/-- The weights' block at a row and an expert, from the blocks read. -/
theorem out3_at (x0 : Vec Ideal S4096x768 .f32) (x1 : Vec Ideal S768x32 .f32) (x2 : Vec Ideal S32x64 .f32)
    (r : Fin 4096) (l : Fin 64) : out0_3 x0 x1 x2 (ix2 r l)
      = probK (logitsK (fun k => x0 (ix2 r k)) (fun k j => x1 (ix2 k j)) (fun j l => x2 (ix2 j l))) l := by
  rw [out3_eq, E3_at x0 x1 x2 r l _ rfl]
  exact congrArg (fun f => probK f l) (funext fun j => pay4_at x0 x1 x2 r j)

/-- The masked logits' block at a row and an expert, from the blocks read. -/
theorem out4_at (x0 : Vec Ideal S4096x768 .f32) (x1 : Vec Ideal S768x32 .f32) (x2 : Vec Ideal S32x64 .f32)
    (r : Fin 4096) (l : Fin 64) : out0_4 x0 x1 x2 (ix2 r l)
      = keepK (logitsK (fun k => x0 (ix2 r k)) (fun k j => x1 (ix2 k j)) (fun j l => x2 (ix2 j l))) l := by
  rw [out4_eq, E4_at x0 x1 x2 r l _ rfl]
  exact congrArg (fun f => keepK f l) (funext fun j => pay4_at x0 x1 x2 r j)

/-- At point `t` the input's block and both results' blocks are the `t`-th of their arrays along the rows. -/
theorem index_rows : ∀ t : Fin cfg0.N, (win0_0.index t (0 : Fin 2) = t.val ∧ win0_0.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- At every point the weights' block is the first, which is the whole matrix. -/
theorem index_whole : ∀ t : Fin cfg0.N, (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- Row `r` of block `t` is row `4096 t + r` of the array. -/
def rowAt (t : Fin cfg0.N) (r : Fin 4096) : Fin 32768 :=
  ⟨t.val * 4096 + r.val, by have h : t.val < 8 := t.isLt; have := r.isLt; omega⟩

/-- The input's block at a place is the array at the block's row. -/
theorem emb0 (t : Fin cfg0.N) (r : Fin 4096) (k : Fin 768) :
    ((cfg0.win 0).blk t).view.emb (ix2 r k : S4096x768.Idx) = (ix2 (rowAt t r) k : S32768x768.Idx) := by
  obtain ⟨⟨e0, e1⟩, -⟩ := index_rows t
  funext a; apply Fin.ext
  match a with
  | ⟨0, _⟩ => show win0_0.index t (0 : Fin 2) * 4096 + 1 * r.val = t.val * 4096 + r.val; omega
  | ⟨1, _⟩ => show win0_0.index t (1 : Fin 2) * 768 + 1 * k.val = k.val; omega

/-- The first weights' block at a place is the matrix there. -/
theorem emb1 (t : Fin cfg0.N) (k : Fin 768) (j : Fin 32) :
    ((cfg0.win 1).blk t).view.emb (ix2 k j : S768x32.Idx) = (ix2 k j : S768x32.Idx) := by
  obtain ⟨⟨e0, e1⟩, -⟩ := index_whole t
  funext a; apply Fin.ext
  match a with
  | ⟨0, _⟩ => show win0_1.index t (0 : Fin 2) * 768 + 1 * k.val = k.val; omega
  | ⟨1, _⟩ => show win0_1.index t (1 : Fin 2) * 32 + 1 * j.val = j.val; omega

/-- The second weights' block at a place is the matrix there. -/
theorem emb2 (t : Fin cfg0.N) (j : Fin 32) (l : Fin 64) :
    ((cfg0.win 2).blk t).view.emb (ix2 j l : S32x64.Idx) = (ix2 j l : S32x64.Idx) := by
  obtain ⟨-, ⟨e0, e1⟩⟩ := index_whole t
  funext a; apply Fin.ext
  match a with
  | ⟨0, _⟩ => show win0_2.index t (0 : Fin 2) * 32 + 1 * j.val = j.val; omega
  | ⟨1, _⟩ => show win0_2.index t (1 : Fin 2) * 64 + 1 * l.val = l.val; omega

/-- A block of the weights at a place is the array at the block's row. -/
theorem emb3 (t : Fin cfg0.N) (r : Fin 4096) (l : Fin 64) :
    ((cfg0.win 3).blk t).view.emb (ix2 r l : S4096x64.Idx) = (ix2 (rowAt t r) l : S32768x64.Idx) := by
  obtain ⟨-, ⟨e0, e1⟩, -⟩ := index_rows t
  funext a; apply Fin.ext
  match a with
  | ⟨0, _⟩ => show win0_3.index t (0 : Fin 2) * 4096 + 1 * r.val = t.val * 4096 + r.val; omega
  | ⟨1, _⟩ => show win0_3.index t (1 : Fin 2) * 64 + 1 * l.val = l.val; omega

/-- A block of the masked logits at a place is the array at the block's row. -/
theorem emb4 (t : Fin cfg0.N) (r : Fin 4096) (l : Fin 64) :
    ((cfg0.win 4).blk t).view.emb (ix2 r l : S4096x64.Idx) = (ix2 (rowAt t r) l : S32768x64.Idx) := by
  obtain ⟨-, -, ⟨e0, e1⟩⟩ := index_rows t
  funext a; apply Fin.ext
  match a with
  | ⟨0, _⟩ => show win0_4.index t (0 : Fin 2) * 4096 + 1 * r.val = t.val * 4096 + r.val; omega
  | ⟨1, _⟩ => show win0_4.index t (1 : Fin 2) * 64 + 1 * l.val = l.val; omega

variable (m : (ℓ : Loc nD τ sig) → Buf (Elt Ideal) ℓ) (ρ : Dev nD → PrngReg)

/-- The logits of row `r` of the blocks that point `t` reads are those of row `4096 t + r` of the input array. -/
theorem block_logits (c : Dev nD) (t : Fin cfg0.N) (r : Fin 4096) :
    logitsK (fun k => iblk m c 0 t (ix2 r k : S4096x768.Idx)) (fun k j => iblk m c 1 t (ix2 k j : S768x32.Idx))
      (fun j l => iblk m c 2 t (ix2 j l : S32x64.Idx))
      = rowK (V m c main_arg0) (V m c main_arg3) (V m c main_arg5) (rowAt t r) := by
  have h0 : (fun k => iblk m c 0 t (ix2 r k : S4096x768.Idx)) = fun k => V m c main_arg0 (ix2 (rowAt t r) k) := by
    funext k
    show V m c main_arg0 (((cfg0.win 0).blk t).view.emb (ix2 r k : S4096x768.Idx)) = _
    rw [emb0]
  have h1 : (fun k j => iblk m c 1 t (ix2 k j : S768x32.Idx)) = fun k j => V m c main_arg3 (ix2 k j) := by
    funext k j
    show V m c main_arg3 (((cfg0.win 1).blk t).view.emb (ix2 k j : S768x32.Idx)) = _
    rw [emb1]
  have h2 : (fun j l => iblk m c 2 t (ix2 j l : S32x64.Idx)) = fun j l => V m c main_arg5 (ix2 j l) := by
    funext j l
    show V m c main_arg5 (((cfg0.win 2).blk t).view.emb (ix2 j l : S32x64.Idx)) = _
    rw [emb2]
  unfold rowK
  rw [h0, h1, h2]

/-- An index of a block is a pair of coordinates. -/
theorem idx_pair (j : S4096x64.Idx) : ∃ (r : Fin 4096) (l : Fin 64), j = ix2 r l := ⟨j 0, j 1, idx_eq j rfl rfl⟩

/-- Point `t` writes back block `t` of the array of weights. -/
theorem flushed3_eq (c : Dev nD) (t : Fin cfg0.N) : (dats m 0 c).flushed 3 t
    = ((cfg0.win 3).blk t).view.read (Elt Ideal) (probsK (V m c main_arg0) (V m c main_arg3) (V m c main_arg5)) := by
  rw [flushed3]
  funext j
  obtain ⟨r, l, rfl⟩ := idx_pair j
  show out0_3 (iblk m c 0 t) (iblk m c 1 t) (iblk m c 2 t) (ix2 r l)
    = probsK (V m c main_arg0) (V m c main_arg3) (V m c main_arg5) (((cfg0.win 3).blk t).view.emb (ix2 r l : S4096x64.Idx))
  rw [emb3, out3_at]
  exact congrArg (fun f => probK f l) (block_logits m c t r)

/-- Point `t` writes back block `t` of the array of masked logits. -/
theorem flushed4_eq (c : Dev nD) (t : Fin cfg0.N) : (dats m 0 c).flushed 4 t
    = ((cfg0.win 4).blk t).view.read (Elt Ideal) (maskedK (V m c main_arg0) (V m c main_arg3) (V m c main_arg5)) := by
  rw [flushed4]
  funext j
  obtain ⟨r, l, rfl⟩ := idx_pair j
  show out0_4 (iblk m c 0 t) (iblk m c 1 t) (iblk m c 2 t) (ix2 r l)
    = maskedK (V m c main_arg0) (V m c main_arg3) (V m c main_arg5) (((cfg0.win 4).blk t).view.emb (ix2 r l : S4096x64.Idx))
  rw [emb4, out4_at]
  exact congrArg (fun f => keepK f l) (block_logits m c t r)

/-- Every row lies in a block. -/
theorem row_covered (i : Fin 32768) : ∃ (t : Fin cfg0.N) (r : Fin 4096), rowAt t r = i := by
  have hi := i.isLt
  refine ⟨⟨i.val / 4096, ?_⟩, ⟨i.val % 4096, Nat.mod_lt _ (by norm_num)⟩, Fin.ext ?_⟩
  · show i.val / 4096 < 8; omega
  · show i.val / 4096 * 4096 + i.val % 4096 = i.val; omega

/-- An index of a result array is a pair of coordinates. -/
theorem idx_pair_array (i : S32768x64.Idx) : ∃ (r : Fin 32768) (l : Fin 64), i = ix2 r l := by
  refine ⟨i 0, i 1, ?_⟩
  funext a
  match a with
  | ⟨0, _⟩ => rfl
  | ⟨1, _⟩ => rfl

/-- Every index of the array of weights is in a block that is written back. -/
theorem covered3 (i : S32768x64.Idx) :
    ∃ t : Fin cfg0.N, (cfg0.win 3).flush t = true ∧ i ∈ ((cfg0.win 3).blk t).view.set := by
  obtain ⟨R, l, rfl⟩ := idx_pair_array i
  obtain ⟨t, r, rfl⟩ := row_covered R
  refine ⟨t, flush0_3 t, ?_⟩
  have hm := ((cfg0.win 3).blk t).view.emb_mem_set (ix2 r l : S4096x64.Idx)
  rwa [emb3] at hm

/-- Every index of the array of masked logits is in a block that is written back. -/
theorem covered4 (i : S32768x64.Idx) :
    ∃ t : Fin cfg0.N, (cfg0.win 4).flush t = true ∧ i ∈ ((cfg0.win 4).blk t).view.set := by
  obtain ⟨R, l, rfl⟩ := idx_pair_array i
  obtain ⟨t, r, rfl⟩ := row_covered R
  refine ⟨t, flush0_4 t, ?_⟩
  have hm := ((cfg0.win 4).blk t).view.emb_mem_set (ix2 r l : S4096x64.Idx)
  rwa [emb4] at hm

/-- The array of weights after the run. -/
theorem final3 (c : Dev nD) : (dats m 0 c).arrAt 3 cfg0.N = probsK (m ((c : Thread nD τ).loc main_arg0))
    (m ((c : Thread nD τ).loc main_arg3)) (m ((c : Thread nD τ).loc main_arg5)) :=
  ((dats m 0 c).arrAt_eq_of_cover 3 _ (fun t _ => flushed3_eq m c t) covered3).trans
    (by rw [V_main_arg0, V_main_arg3, V_main_arg5])

/-- The array of masked logits after the run. -/
theorem final4 (c : Dev nD) : (dats m 0 c).arrAt 4 cfg0.N = maskedK (m ((c : Thread nD τ).loc main_arg0))
    (m ((c : Thread nD τ).loc main_arg3)) (m ((c : Thread nD τ).loc main_arg5)) :=
  ((dats m 0 c).arrAt_eq_of_cover 4 _ (fun t _ => flushed4_eq m c t) covered4).trans
    (by rw [V_main_arg0, V_main_arg3, V_main_arg5])

end Cert.Router
-- ==== Proof.Router.TopTwo.lean ====
/- The order in which the host's `top_k` takes the 64 entries of a row, greatest first, and what it gives of an array
   of rows: its values and its positions. Where the first entry taken is below +∞ and each of the first three is
   strictly above the next, the first two places hold the two strictly greatest entries. -/
module

public import proofs.«01_k».proof.Proof.Gen.ReferenceIdeal
public import proofs.«01_k».proof.Proof.Router.Selection
public import Idealize.ShloMosaic.Lib.SortFacts
public import Idealize.ShloMosaic.Lib.Pointwise

@[expose] public section

noncomputable section

namespace Cert.Router

open Idealize.ShloMosaic Cert.ReferenceIdeal

/-- Place `i` of a row comes before place `j` where its entry is the greater. -/
def before (f : Fin 64 → EReal) (i j : Fin 64) : Bool :=
  FloatOps.cmpfTotal (F := Ideal) (φ := .f32) .gt (f i) (f j) == 1#1

/-- The place of the `k`-th entry of a row in descending order, equal entries by place. -/
def ord (f : Fin 64 → EReal) (k : Fin 64) : Fin 64 := sortedFrom (before f) k

/-- The total comparison "greater" decides the order. -/
theorem before_iff (f : Fin 64 → EReal) (i j : Fin 64) : before f i j = true ↔ f j < f i := by
  show (BitVec.ofBool (decide (f j < f i)) == 1#1) = true ↔ _
  by_cases h : f j < f i <;> simp [h]

/-- A place that does not come before another holds no greater an entry. -/
theorem not_before_iff (f : Fin 64 → EReal) (i j : Fin 64) : before f i j = false ↔ f i ≤ f j := by
  rw [← not_lt, ← before_iff, Bool.not_eq_true]

/-- No later entry is greater than an earlier one. -/
theorem ord_le (f : Fin 64 → EReal) {i j : Fin 64} (h : i < j) : f (ord f j) ≤ f (ord f i) :=
  (not_before_iff f _ _).1 (sortedFrom_noInversion (before f) (before f)
    (fun a b hab => (not_before_iff f b a).2 ((before_iff f a b).1 hab).le) (fun _ _ hab => hab)
    (fun a b c hab hbc => (not_before_iff f a c).2
      (((not_before_iff f a b).1 hab).trans ((not_before_iff f b c).1 hbc))) i j h)

/-- Every place is taken once. -/
theorem ord_surjective (f : Fin 64 → EReal) : Function.Surjective (ord f) := sortedFrom_surjective _

/-- The first two places taken hold the two strictly greatest entries, where the first entry is below +∞ and the
    first three entries descend strictly. -/
theorem twoGreatest_ord (f : Fin 64 → EReal) (h0 : f (ord f 0) < ⊤) (h1 : f (ord f 1) < f (ord f 0))
    (h2 : f (ord f 2) < f (ord f 1)) : TwoGreatest f (ord f 0) (ord f 1) where
  lt := h1
  finite := h0
  others l ha hb := by
    obtain ⟨k, rfl⟩ := ord_surjective f l
    have hk0 : k ≠ 0 := fun e => ha (by rw [e])
    have hk1 : k ≠ 1 := fun e => hb (by rw [e])
    rcases eq_or_ne k 2 with e | hk2
    · rw [e]; exact h2
    · refine lt_of_le_of_lt (ord_le f ?_) h2
      have h0' : k.val ≠ 0 := fun e => hk0 (Fin.ext e)
      have h1' : k.val ≠ 1 := fun e => hk1 (Fin.ext e)
      have h2' : k.val ≠ 2 := fun e => hk2 (Fin.ext e)
      exact Fin.lt_def.2 (by show 2 < k.val; omega)

/-- Moving along a row changes the column alone. -/
theorem along_row (r : Fin 32768) (l k : Fin 64) :
    Shape.Idx.along (ix2 r l : S32768x64.Idx) (1 : Fin 2) k = (ix2 r k : S32768x64.Idx) := by
  funext a
  match a with
  | ⟨0, _⟩ => rfl
  | ⟨1, _⟩ => rfl

/-- The two arrays sorted together by "greater" on the first, read at a row: both at the row's place in order. -/
theorem sorted_at {β : Type} (v : FVec Ideal S32768x64 .f32) (w : S32768x64.Idx → β) (r : Fin 32768) (k : Fin 64) :
    (Host.sort2 S32768x64 1 (fun a b => FloatOps.cmpfTotal (F := Ideal) (φ := .f32) .gt a.1 b.1) v w).1 (ix2 r k)
      = v (ix2 r (ord (fun l => v (ix2 r l)) k))
    ∧ (Host.sort2 S32768x64 1 (fun a b => FloatOps.cmpfTotal (F := Ideal) (φ := .f32) .gt a.1 b.1) v w).2 (ix2 r k)
      = w (ix2 r (ord (fun l => v (ix2 r l)) k)) := by
  have ho : sortedFrom (fun i i' => FloatOps.cmpfTotal (F := Ideal) (φ := .f32) .gt
      (v (Shape.Idx.along (ix2 r k : S32768x64.Idx) (1 : Fin 2) i))
      (v (Shape.Idx.along (ix2 r k : S32768x64.Idx) (1 : Fin 2) i')) == 1#1) k = ord (fun l => v (ix2 r l)) k := by
    refine congrArg (fun b => sortedFrom b k) (funext fun (i : Fin 64) => funext fun (i' : Fin 64) => ?_)
    exact congrArg₂ (fun p q => FloatOps.cmpfTotal (F := Ideal) (φ := .f32) .gt (v p) (v q) == 1#1)
      (along_row r k i) (along_row r k i')
  unfold Host.sort2
  rw [dif_pos (show 1 < S32768x64.rank by decide)]
  exact ⟨congrArg v ((along_row r k _).trans (congrArg (ix2 r) ho)),
    congrArg w ((along_row r k _).trans (congrArg (ix2 r) ho))⟩

/-- The first `K` columns of an array of rows, read at a row: the array there. -/
theorem cut_at {β : Type} {K : Nat} (hK : K ≤ 64) (w : S32768x64.Idx → β)
    (h : S32768x64.Slices (fun _ => 0) ⟨2, ![32768, K]⟩) (r : Fin 32768) (k : Fin K) :
    extractStridedSlice ⟨2, ![32768, K]⟩ (fun _ => 0) w h (ix2 r k) = w (ix2 r (k.castLE hK)) := by
  unfold extractStridedSlice
  refine congrArg w (funext fun a => Fin.ext ?_)
  match a with
  | ⟨0, _⟩ => show 0 + r.val = r.val; omega
  | ⟨1, _⟩ => show 0 + k.val = k.val; omega

/-- The array whose every entry is its own column. -/
def columns : IVec S32768x64 32 := fun i => if hd : 1 < S32768x64.rank then iotaInDim S32768x64 32 ⟨1, hd⟩ i else 0#32

/-- An entry of the array of columns. -/
theorem columns_at (r : Fin 32768) (l : Fin 64) : columns (ix2 r l) = BitVec.ofNat 32 l.val := by
  unfold columns
  rw [dif_pos (show 1 < S32768x64.rank by decide)]
  rfl

/-- The `K` greatest entries of a row, as `top_k` gives them. -/
theorem topValues_at {K : Nat} (hK : K ≤ 64) (v : FVec Ideal S32768x64 .f32)
    (h : S32768x64.Slices (fun _ => 0) ⟨2, ![32768, K]⟩) (r : Fin 32768) (k : Fin K) :
    (Host.topK ⟨2, ![32768, K]⟩ 1 (FloatOps.cmpfTotal (F := Ideal) (φ := .f32) .gt) v h).1 (ix2 r k)
      = v (ix2 r (ord (fun l => v (ix2 r l)) (k.castLE hK))) := by
  unfold Host.topK
  exact (cut_at hK _ h r k).trans (sorted_at v columns r _).1

/-- The places of the `K` greatest entries of a row, as `top_k` gives them. -/
theorem topPlaces_at {K : Nat} (hK : K ≤ 64) (v : FVec Ideal S32768x64 .f32)
    (h : S32768x64.Slices (fun _ => 0) ⟨2, ![32768, K]⟩) (r : Fin 32768) (k : Fin K) :
    (Host.topK ⟨2, ![32768, K]⟩ 1 (FloatOps.cmpfTotal (F := Ideal) (φ := .f32) .gt) v h).2 (ix2 r k)
      = BitVec.ofNat 32 (ord (fun l => v (ix2 r l)) (k.castLE hK)).val := by
  unfold Host.topK
  exact (cut_at hK _ h r k).trans ((sorted_at v columns r _).2.trans (columns_at r _))

end Cert.Router
-- ==== Proof.Router.HostMask.lean ====
/- The reference's last stages over an array of logits: the two places of each row's greatest entries, the mask that a
   scatter makes of them, the masked logits and their softmax. Each stage is the printed operations over the arrays it
   reads; `hMasked_at` and `hProbs_at` read the two results at a row and an expert. -/
module

public import proofs.«01_k».proof.Proof.Router.TopTwo
public import Idealize.ShloMosaic.Lib.ScatterToDense.RefScatter

@[expose] public section

noncomputable section

namespace Cert.Router

open Idealize.ShloMosaic Cert.ReferenceIdeal Cert.ReferenceIdeal.Gen
open scoped BigOperators

/-- The places of each row's two greatest entries. -/
def hPlaces (v : FVec Ideal S32768x64 .f32) : IVec S32768x2 32 :=
  ((Host.topK S32768x2 1 (FloatOps.cmpfTotal .gt) v sliceFits_S32768x64_S32768x2).2)

/-- The column of row numbers. -/
def hRowNumbers : IVec S32768x1 32 := broadcastInDim S32768x1 ![0] bcast_S32768_S32768x1_0 (iotaInDim S32768 32 0)

/-- The row numbers, a negative one counted from the end. -/
def hRows : IVec S32768x1 32 :=
  select (cmpi .slt hRowNumbers (broadcastInDim S32768x1 ![] bcast_S_S32768x1 (constantI S_ 32 0#32)))
    (addi hRowNumbers (broadcastInDim S32768x1 ![] bcast_S_S32768x1 (constantI S_ 32 32768#32))) hRowNumbers

/-- The places, a negative one counted from the end. -/
def hCols (p : IVec S32768x2 32) : IVec S32768x2 32 :=
  select (cmpi .slt p (broadcastInDim S32768x2 ![] bcast_S_S32768x2 (constantI S_ 32 0#32)))
    (addi p (broadcastInDim S32768x2 ![] bcast_S_S32768x2 (constantI S_ 32 64#32))) p

/-- The pairs of a row number and a place. -/
def hPairs (p : IVec S32768x2 32) : IVec S32768x2x2 32 :=
  concatenate S32768x2x2 2
    [⟨S32768x2x1, broadcastInDim S32768x2x1 ![0, 1] bcast_S32768x2_S32768x2x1_0_1
        (broadcastInDim S32768x2 ![0, 1] bcast_S32768x1_S32768x2_0_1 hRows)⟩,
      ⟨S32768x2x1, broadcastInDim S32768x2x1 ![0, 1] bcast_S32768x2_S32768x2x1_0_1 (hCols p)⟩]
    concatenates_S32768x2x1_S32768x2x1_S32768x2x2_d2

/-- The mask: set at each pair, clear elsewhere. -/
def hMask (p : IVec S32768x2 32) : IVec S32768x64 1 :=
  Host.scatter scatter_S32768x64_S32768x2x2_S32768x2_n_01_01_2 (fun _ b => b)
    (broadcastInDim S32768x64 ![] bcast_S_S32768x64 (constantI S_ 1 0#1)) (hPairs p)
    (broadcastInDim S32768x2 ![] bcast_S_S32768x2 (constantI S_ 1 1#1))

/-- The masked logits: −∞ where the mask is clear. -/
def hMasked (v : FVec Ideal S32768x64 .f32) : FVec Ideal S32768x64 .f32 :=
  select (hMask (hPlaces v)) v (broadcastInDim S32768x64 ![] bcast_S_S32768x64 (id (constant S_ .f32 0xFF800000#32)))

/-- The greatest entry of each row. -/
def hTop (w : FVec Ideal S32768x64 .f32) : FVec Ideal S32768 .f32 :=
  Host.reduce FloatOps.maximumf w (constant S_ .f32 0xFF800000#32) reducesTo_S32768x64_S32768_d1 h_S_

/-- The greatest entry of each row, and −∞ at the least: what the softmax takes off its row. -/
def hShift (w : FVec Ideal S32768x64 .f32) : FVec Ideal S32768 .f32 :=
  maximumf (broadcastInDim S32768 ![] bcast_S_S32768 (constant S_ .f32 0xFF800000#32)) (hTop w)

/-- The exponentials of each entry less its row's greatest. -/
def hExp (w : FVec Ideal S32768x64 .f32) : FVec Ideal S32768x64 .f32 :=
  Host.exp (subf w (broadcastInDim S32768x64 ![0, 1] bcast_S32768x1_S32768x64_0_1 (broadcastInDim S32768x1 ![0] bcast_S32768_S32768x1_0 (hShift w))))

/-- The softmax of each row. -/
def hProbs (w : FVec Ideal S32768x64 .f32) : FVec Ideal S32768x64 .f32 :=
  Host.divf (hExp w) (broadcastInDim S32768x64 ![0, 1] bcast_S32768x1_S32768x64_0_1 (broadcastInDim S32768x1 ![0] bcast_S32768_S32768x1_0 (Host.reduceAdd (hExp w) (constant S_ .f32 0x00000000#32) reducesTo_S32768x64_S32768_d1 h_S_)))

/-- The greatest entry of a row. -/
theorem hTop_at (w : FVec Ideal S32768x64 .f32) (r : Fin 32768) : hTop w (ix1 r) = top (fun k => w (ix2 r k)) := by
  pointwise [hTop]
  rfl

/-- What the softmax takes off a row. -/
theorem hShift_at (w : FVec Ideal S32768x64 .f32) (r : Fin 32768) :
    hShift w (ix1 r) = max neg (top fun k => w (ix2 r k)) := by
  unfold hShift
  rw [maximumf_apply, hTop_at]
  rfl

/-- The exponentials at a row and an expert. -/
theorem hExp_at (w : FVec Ideal S32768x64 .f32) (r : Fin 32768) (l : Fin 64) :
    hExp w (ix2 r l) = expR (fun k => w (ix2 r k)) l := by
  pointwise [hExp, hShift_at]
  rfl

/-- The softmax at a row and an expert. -/
theorem hProbs_at (w : FVec Ideal S32768x64 .f32) (r : Fin 32768) (l : Fin 64) :
    hProbs w (ix2 r l) = softmaxR (fun k => w (ix2 r k)) l := by
  pointwise [hProbs, hExp_at]
  rfl

/-- A row's number. -/
theorem hRowNumbers_at (r : Fin 32768) : hRowNumbers (ix2 r 0) = BitVec.ofNat 32 r.val := by
  pointwise [hRowNumbers]

/-- A row's number is not negative, so it is left as it is. -/
theorem hRows_at (r : Fin 32768) : hRows (ix2 r 0) = BitVec.ofNat 32 r.val := by
  have hr : (BitVec.ofNat 32 r.val).toNat < 2 ^ (32 - 1) := by
    rw [BitVec.toNat_ofNat]
    have := r.isLt
    omega
  pointwise [hRows]
  rw [hRowNumbers_at]
  exact Routing.wrap_of_lt _ _ hr

/-- The first word of a pair. -/
theorem hPairs_row (p : IVec S32768x2 32) (r : Fin 32768) (k : Fin 2) :
    hPairs p (ix3 r k 0) = BitVec.ofNat 32 r.val := by
  pointwise [hPairs]
  exact hRows_at r

/-- The second word of a pair: a place is not negative, so it is left as it is. -/
theorem hPairs_col (p : IVec S32768x2 32) (r : Fin 32768) (k : Fin 2) (h : (p (ix2 r k)).toNat < 64) :
    hPairs p (ix3 r k 1) = p (ix2 r k) := by
  pointwise [hPairs, hCols]
  exact Routing.wrap_of_lt _ _ (by omega)

/-- The mask at a row and an expert: set exactly at the two places. -/
theorem hMask_at (p : IVec S32768x2 32) (r : Fin 32768) (l : Fin 64) (a b : Fin 64)
    (hp : ∀ (i : Fin 32768) (k : Fin 2), (p (ix2 i k)).toNat < 64)
    (ha : p (ix2 r 0) = BitVec.ofNat 32 a.val) (hb : p (ix2 r 1) = BitVec.ofNat 32 b.val) :
    hMask p (ix2 r l) = if l = a ∨ l = b then 1#1 else 0#1 := by
  refine (ScatterToDense.scatter_eq_GS (T := 32768) (C := 64) (K := 2) scatter_S32768x64_S32768x2x2_S32768x2_n_01_01_2
    rfl rfl rfl (by norm_num) (by norm_num) (broadcastInDim S32768x64 ![] bcast_S_S32768x64 (constantI S_ 1 0#1)) (hPairs p)
    (broadcastInDim S32768x2 ![] bcast_S_S32768x2 (constantI S_ 1 1#1))
    (fun i k => if h : k < 2 then p (ix2 i ⟨k, h⟩) else 0#32) (fun _ _ => 1#1)
    (fun i k => hPairs_row p i k) (fun i k => ?_) (fun _ _ => rfl) r l).trans ?_
  · rw [dif_pos k.isLt]; exact hPairs_col p i k (hp i k)
  · rw [ScatterToDense.GS_succ, ScatterToDense.GS_succ, ScatterToDense.GS_zero, dif_pos (by norm_num), dif_pos (by norm_num)]
    have hword : ∀ (c : Fin 64), (BitVec.ofNat 32 c.val).toNat = c.val := fun c => by
      rw [BitVec.toNat_ofNat]
      have := c.isLt
      omega
    have e0 : p (ix2 r ⟨0, by norm_num⟩) = BitVec.ofNat 32 a.val := ha
    have e1 : p (ix2 r ⟨1, by norm_num⟩) = BitVec.ofNat 32 b.val := hb
    rw [e0, e1, hword, hword]
    simp only [← Fin.ext_iff]
    by_cases h0 : l = a
    · by_cases h1 : l = b
      · rw [if_pos h1, if_pos (Or.inl h0)]
      · rw [if_neg h1, if_pos h0, if_pos (Or.inl h0)]
    · by_cases h1 : l = b
      · rw [if_pos h1, if_pos (Or.inr h1)]
      · rw [if_neg h1, if_neg h0, if_neg (by tauto)]
        rfl

/-- The masked logits at a row and an expert: the row with every entry but the first two in order at −∞. -/
theorem hMasked_at (v : FVec Ideal S32768x64 .f32) (r : Fin 32768) (l : Fin 64) :
    hMasked v (ix2 r l)
      = keepR (fun k => v (ix2 r k)) (ord (fun k => v (ix2 r k)) 0) (ord (fun k => v (ix2 r k)) 1) l := by
  have hplace : ∀ (i : Fin 32768) (k : Fin 2), hPlaces v (ix2 i k)
      = BitVec.ofNat 32 (ord (fun l => v (ix2 i l)) (k.castLE (by norm_num))).val :=
    fun i k => topPlaces_at (K := 2) (by norm_num) v sliceFits_S32768x64_S32768x2 i k
  have hmask := hMask_at (hPlaces v) r l (ord (fun k => v (ix2 r k)) 0) (ord (fun k => v (ix2 r k)) 1)
    (fun i k => by
      rw [hplace, BitVec.toNat_ofNat]
      have := (ord (fun l => v (ix2 i l)) (k.castLE (by norm_num))).isLt
      omega) (hplace r 0) (hplace r 1)
  show Scalar.select (hMask (hPlaces v) (ix2 r l)) (v (ix2 r l)) neg = _
  rw [hmask, keepR]
  by_cases h : l = ord (fun k => v (ix2 r k)) 0 ∨ l = ord (fun k => v (ix2 r k)) 1
  · rw [if_pos h, if_pos h]; rfl
  · rw [if_neg h, if_neg h]; rfl

end Cert.Router
-- ==== Proof.Router.RowFacts.lean ====
/- The kernel's row and the reference's row agree: on a row of real numbers the two variances are one number, which
   with the added literal is positive, so that the product with the reciprocal root is the quotient by the root; and the
   two activations are one function. -/
module

public import proofs.«01_k».proof.Proof.Router.Row
public import Mathlib.Tactic.FieldSimp
public import Mathlib.Tactic.Linarith
public import Mathlib.Tactic.Positivity
public import Mathlib.Algebra.BigOperators.Field

@[expose] public section

noncomputable section

namespace Cert.Router

open Idealize.ShloMosaic
open scoped BigOperators

/-- The width's word is the number 768. -/
theorem width_eq : width = ((768 : ℝ) : EReal) := by
  simp [width, Ideal.ofBits, Ideal.ieee, -EReal.coe_mul]; norm_num

/-- The width is positive. -/
theorem width_pos : 0 < width := by
  rw [width_eq]; exact EReal.coe_pos.mpr (by norm_num)

/-- The literal under the root is a positive real. -/
theorem eps_real : ∃ e : ℝ, 0 < e ∧ eps = (e : EReal) := by
  refine ⟨_, ?_, by simp only [eps, Ideal.ofBits, Ideal.ieee]; simp [-EReal.coe_mul]; rfl⟩
  positivity

/-- The quotient by one is the dividend. -/
theorem div_one_lit (y : EReal) : Ideal.div y 1 = y := by
  rw [show (1 : EReal) = ((1 : ℝ) : EReal) by norm_cast, Ideal.div_coe one_ne_zero]
  simp

/-- A finite sum of reals, taken in the extended reals. -/
theorem coe_sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The mean of a row of reals is their real mean. -/
theorem mean_coe (y : Fin 768 → ℝ) : mean (fun k => (y k : EReal)) = (((∑ k, y k) / 768 : ℝ) : EReal) := by
  rw [mean, coe_sum_real, width_eq, Ideal.div_coe (by norm_num), ← EReal.coe_mul]
  congr 1; ring

/-- The kernel's variance of a row of reals. -/
theorem varK_coe (y : Fin 768 → ℝ) :
    varK (fun k => (y k : EReal)) = (((∑ k, y k * y k) / 768 - (∑ k, y k) / 768 * ((∑ k, y k) / 768) : ℝ) : EReal) := by
  simp only [varK, mean_coe, ← EReal.coe_mul, coe_sum_real]
  rw [width_eq, Ideal.div_coe (by norm_num), ← EReal.coe_mul, ← EReal.coe_sub]
  congr 1; ring

/-- The reference's variance of a row of reals. -/
theorem varR_coe (y : Fin 768 → ℝ) :
    varR (fun k => (y k : EReal))
      = (((∑ k, (y k - (∑ k, y k) / 768) * (y k - (∑ k, y k) / 768)) / 768 : ℝ) : EReal) := by
  simp only [varR, mean_coe, ← EReal.coe_sub, ← EReal.coe_mul, coe_sum_real]
  rw [width_eq, Ideal.div_coe (by norm_num), ← EReal.coe_mul]
  congr 1; ring

/-- The mean square less the squared mean is the mean squared distance from the mean. -/
theorem variance_forms (y : Fin 768 → ℝ) :
    (∑ k, y k * y k) / 768 - (∑ k, y k) / 768 * ((∑ k, y k) / 768)
      = (∑ k, (y k - (∑ k, y k) / 768) * (y k - (∑ k, y k) / 768)) / 768 := by
  generalize hs : (∑ k, y k) / 768 = μ
  have hsum : ∑ k, y k = 768 * μ := by rw [← hs]; ring
  have e : ∑ k, (y k - μ) * (y k - μ) = ∑ k, y k * y k - 2 * μ * ∑ k, y k + 768 * (μ * μ) := by
    have : ∀ k, (y k - μ) * (y k - μ) = y k * y k - 2 * μ * y k + μ * μ := fun k => by ring
    simp only [this, Finset.sum_add_distrib, Finset.sum_sub_distrib, ← Finset.mul_sum, Finset.sum_const, Finset.card_univ,
      Fintype.card_fin, nsmul_eq_mul]
    norm_num
    ring
  rw [e, hsum]; ring

/-- On a row of reals the kernel's normalised entries are the reference's. -/
theorem normK_eq_normR (x : Fin 768 → EReal) (hx : ∀ k, ∃ y : ℝ, x k = (y : EReal)) (k : Fin 768) :
    normK x k = normR x k := by
  choose y hy using hx
  obtain rfl : x = fun k => (y k : EReal) := funext hy
  obtain ⟨e, he, heq⟩ := eps_real
  have hv : 0 ≤ (∑ k, (y k - (∑ k, y k) / 768) * (y k - (∑ k, y k) / 768)) / 768 :=
    div_nonneg (Finset.sum_nonneg fun k _ => mul_self_nonneg _) (by norm_num)
  have hpos : 0 < (∑ k, (y k - (∑ k, y k) / 768) * (y k - (∑ k, y k) / 768)) / 768 + e := by linarith
  rw [normK, normR, varK_coe, variance_forms, varR_coe, heq, ← EReal.coe_add, Ideal.rsqrt_coe, Ideal.sqrt_coe,
    if_neg (not_lt.mpr hpos.le), if_neg hpos.ne', if_neg (not_lt.mpr hpos.le),
    Ideal.div_coe (Real.sqrt_pos.mpr hpos).ne', one_div]

/-- The two activations are one function: `erfc` of the negated argument is one plus `erf`. -/
theorem geluR_eq_geluK (h : EReal) : geluR h = geluK h := by
  rw [geluR, geluK, EReal.neg_mul, Ideal.erfc_neg]

/-- On a row of reals the kernel's logits are the reference's, whatever the weights. -/
theorem logitsK_eq_logitsR (x : Fin 768 → EReal) (hx : ∀ k, ∃ y : ℝ, x k = (y : EReal)) (w₁ : Fin 768 → Fin 32 → EReal)
    (w₂ : Fin 32 → Fin 64 → EReal) : logitsK x w₁ w₂ = logitsR x w₁ w₂ := by
  funext l
  simp only [logitsK, logitsR, mlp, geluR_eq_geluK, normK_eq_normR x hx]

/-- An extended real that is not real is infinite. -/
theorem infinite_of_not_real {a : EReal} (h : ¬∃ y : ℝ, a = (y : EReal)) : a = ⊥ ∨ a = ⊤ := by
  induction a with
  | bot => exact Or.inl rfl
  | top => exact Or.inr rfl
  | coe y => exact absurd ⟨y, rfl⟩ h

/-- Both terms of a real sum are real. -/
theorem real_terms {a b : EReal} (h : ∃ z : ℝ, a + b = (z : EReal)) :
    (∃ y : ℝ, a = (y : EReal)) ∧ ∃ y : ℝ, b = (y : EReal) := by
  obtain ⟨z, h⟩ := h
  induction a <;> induction b <;> simp_all [← EReal.coe_add]

/-- Every term of a finite real sum is real. -/
theorem real_of_sum {ι : Type} (s : Finset ι) (f : ι → EReal) (h : ∃ z : ℝ, ∑ k ∈ s, f k = (z : EReal)) :
    ∀ k ∈ s, ∃ y : ℝ, f k = (y : EReal) := by
  classical
  induction s using Finset.induction_on with
  | empty => simp
  | insert a s ha ih =>
    rw [Finset.sum_insert ha] at h
    obtain ⟨h1, h2⟩ := real_terms h
    intro k hk
    rcases Finset.mem_insert.mp hk with rfl | hk
    · exact h1
    · exact ih h2 k hk

/-- An infinite number divided by the width is itself. -/
theorem div_width {a : EReal} (h : a = ⊥ ∨ a = ⊤) : Ideal.div a width = a := by
  rw [width_eq, Ideal.div_coe (by norm_num)]
  rcases h with rfl | rfl
  · exact EReal.bot_mul_coe_of_pos (by norm_num)
  · exact EReal.top_mul_coe_of_pos (by norm_num)

/-- A row with an infinite entry has an infinite mean. -/
theorem mean_infinite (x : Fin 768 → EReal) {k : Fin 768} (hk : ¬∃ y : ℝ, x k = (y : EReal)) :
    mean x = ⊥ ∨ mean x = ⊤ := by
  have h := infinite_of_not_real fun h => hk (real_of_sum Finset.univ x h k (Finset.mem_univ k))
  rwa [mean, div_width h]

/-- A number's squared distance from an infinite one is infinite. -/
theorem distance_infinite (a : EReal) {b : EReal} (h : b = ⊥ ∨ b = ⊤) : (a - b) * (a - b) = ⊤ := by
  rcases h with rfl | rfl <;> induction a <;> rfl

/-- A row with an infinite entry is normalised to zeros by the reference. -/
theorem normR_infinite (x : Fin 768 → EReal) {k : Fin 768} (hk : ¬∃ y : ℝ, x k = (y : EReal)) (i : Fin 768) :
    normR x i = 0 := by
  have hs : ∑ _k : Fin 768, (⊤ : EReal) = ⊤ := by
    rcases infinite_of_not_real fun h => by
      obtain ⟨y, hy⟩ := real_of_sum Finset.univ (fun _ : Fin 768 => (⊤ : EReal)) h k (Finset.mem_univ k)
      exact EReal.coe_ne_top y hy.symm with h | h
    · exact absurd (h ▸ Finset.sum_nonneg fun _ _ => le_top) (by simp)
    · exact h
  obtain ⟨e, he, heq⟩ := eps_real
  have hv : varR x + eps = ⊤ := by
    simp only [varR, distance_infinite _ (mean_infinite x hk)]
    rw [hs, div_width (Or.inr rfl), heq, EReal.top_add_coe]
  rw [normR, hv, Ideal.sqrt_top, Ideal.div, if_neg (by simp), EReal.inv_top, mul_zero]

/-- A row with an infinite entry has all its reference's logits zero, whatever the weights. -/
theorem logitsR_infinite (x : Fin 768 → EReal) {k : Fin 768} (hk : ¬∃ y : ℝ, x k = (y : EReal)) (w₁ : Fin 768 → Fin 32 → EReal)
    (w₂ : Fin 32 → Fin 64 → EReal) (l : Fin 64) : logitsR x w₁ w₂ l = 0 := by
  simp only [logitsR, mlp, normR_infinite x hk, geluR, zero_mul, mul_zero, Finset.sum_const_zero]

end Cert.Router
-- ==== Proof.Router.HostTerms.lean ====
/- The reference's and the precondition's array expressions, cut into named stages. Each stage is the printed
   operations over the arrays it reads; `logits_at` reads the stages' composite at one row and one expert. -/
module

public import proofs.«01_k».proof.Proof.Gen.ReferenceIdeal
public import proofs.«01_k».proof.Proof.Router.RowFacts
public import Idealize.ShloMosaic.Lib.Pointwise

@[expose] public section

noncomputable section

namespace Cert.Router

open Idealize.ShloMosaic Cert.ReferenceIdeal Cert.ReferenceIdeal.Gen
open scoped BigOperators

/-- The column of row means. -/
def hMean (x : FVec Ideal S32768x768 .f32) : FVec Ideal S32768x1 .f32 :=
  Host.divf (broadcastInDim S32768x1 ![0] bcast_S32768_S32768x1_0 (Host.reduceAdd x (constant S_ .f32 0x00000000#32) reducesTo_S32768x768_S32768_d1 h_S_)) (broadcastInDim S32768x1 ![] bcast_S_S32768x1 (constant S_ .f32 0x44400000#32))

/-- Each entry less its row's mean. -/
def hCentred (x : FVec Ideal S32768x768 .f32) : FVec Ideal S32768x768 .f32 :=
  subf x (broadcastInDim S32768x768 ![0, 1] bcast_S32768x1_S32768x768_0_1 (hMean x))

/-- The divisor of the variance: 768 less a zero read as a float. -/
def hDivisor : FVec Ideal S_ .f32 := subf (constant S_ .f32 0x44400000#32) (sitofp .f32 (constantI S_ 32 0#32))

/-- The column of row variances, kept where the divisor is positive. -/
def hVar (x : FVec Ideal S32768x768 .f32) : FVec Ideal S32768x1 .f32 :=
  select (broadcastInDim S32768x1 ![] bcast_S_S32768x1 (cmpf .ogt hDivisor (constant S_ .f32 0x00000000#32)))
    (Host.divf (broadcastInDim S32768x1 ![0] bcast_S32768_S32768x1_0 (Host.reduceAdd (mulf (hCentred x) (hCentred x)) (constant S_ .f32 0x00000000#32) reducesTo_S32768x768_S32768_d1 h_S_)) (broadcastInDim S32768x1 ![] bcast_S_S32768x1 hDivisor))
    (broadcastInDim S32768x1 ![] bcast_S_S32768x1 (id (constant S_ .f32 0x7FC00000#32)))

/-- The normalised rows, scaled by `gamma` and shifted by `beta`. -/
def hNorm (x : FVec Ideal S32768x768 .f32) (gamma beta : FVec Ideal S768 .f32) : FVec Ideal S32768x768 .f32 :=
  addf (mulf (Host.divf (hCentred x) (broadcastInDim S32768x768 ![0, 1] bcast_S32768x1_S32768x768_0_1 (Host.sqrt (addf (hVar x) (broadcastInDim S32768x1 ![] bcast_S_S32768x1 (constant S_ .f32 0x3727C5AC#32)))))) (broadcastInDim S32768x768 ![0, 1] bcast_S1x768_S32768x768_0_1 (broadcastInDim S1x768 ![1] bcast_S768_S1x768_1 gamma))) (broadcastInDim S32768x768 ![0, 1] bcast_S1x768_S32768x768_0_1 (broadcastInDim S1x768 ![1] bcast_S768_S1x768_1 beta))

/-- The hidden layer before its activation. -/
def hHidden (n : FVec Ideal S32768x768 .f32) (W1 : FVec Ideal S768x32 .f32) (b1 : FVec Ideal S32 .f32) : FVec Ideal S32768x32 .f32 :=
  addf (Host.dotGeneral dot_S32768x768_S768x32_S32768x32_1_0_0_1_n_n none n W1) (broadcastInDim S32768x32 ![0, 1] bcast_S1x32_S32768x32_0_1 (broadcastInDim S1x32 ![1] bcast_S32_S1x32_1 b1))

/-- The activation, by `erfc`. -/
def hGelu (h : FVec Ideal S32768x32 .f32) : FVec Ideal S32768x32 .f32 :=
  mulf (mulf (broadcastInDim S32768x32 ![] bcast_S_S32768x32 (constant S_ .f32 0x3F000000#32)) h) (Host.erfc (mulf (Host.negf h) (broadcastInDim S32768x32 ![] bcast_S_S32768x32 (constant S_ .f32 0x3F3504F3#32))))

/-- The logits from the activated hidden layer. -/
def hOut (g : FVec Ideal S32768x32 .f32) (W2 : FVec Ideal S32x64 .f32) (b2 : FVec Ideal S64 .f32) : FVec Ideal S32768x64 .f32 :=
  Host.divf (addf (Host.dotGeneral dot_S32768x32_S32x64_S32768x64_1_0_0_1_n_n none g W2) (broadcastInDim S32768x64 ![0, 1] bcast_S1x64_S32768x64_0_1 (broadcastInDim S1x64 ![1] bcast_S64_S1x64_1 b2))) (broadcastInDim S32768x64 ![] bcast_S_S32768x64 (constant S_ .f32 0x3F800000#32))

/-- The logits of all rows. -/
def hLogits (x : FVec Ideal S32768x768 .f32) (gamma beta : FVec Ideal S768 .f32) (W1 : FVec Ideal S768x32 .f32)
    (b1 : FVec Ideal S32 .f32) (W2 : FVec Ideal S32x64 .f32) (b2 : FVec Ideal S64 .f32) : FVec Ideal S32768x64 .f32 :=
  hOut (hGelu (hHidden (hNorm x gamma beta) W1 b1)) W2 b2

/-- A row's mean, read off the array. -/
theorem hMean_at (x : FVec Ideal S32768x768 .f32) (r : Fin 32768) (u : Fin 1) :
    hMean x (ix2 r u) = mean (fun k => x (ix2 r k)) := by
  pointwise [hMean]
  simp only [mean]

/-- An entry less its row's mean, read off the array. -/
theorem hCentred_at (x : FVec Ideal S32768x768 .f32) (r : Fin 32768) (k : Fin 768) :
    hCentred x (ix2 r k) = x (ix2 r k) - mean (fun k => x (ix2 r k)) := by
  pointwise [hCentred, hMean_at]

/-- The divisor is 768: the zero taken from it is zero. -/
theorem hDivisor_eq : Ideal.ofBits .f32 0x44400000#32 - FloatOps.sitofp (F := Ideal) .f32 0#32 = width := by
  show width - (((0#32).toInt : ℝ) : EReal) = width
  simp

/-- A row's variance, read off the array: the divisor is positive, so the quotient is kept. -/
theorem hVar_at (x : FVec Ideal S32768x768 .f32) (r : Fin 32768) (u : Fin 1) :
    hVar x (ix2 r u) = varR (fun k => x (ix2 r k)) := by
  pointwise [hVar, hDivisor, hCentred_at]
  rw [hDivisor_eq, if_pos width_pos]
  simp only [varR]

/-- A normalised entry, read off the array at unit scale and zero shift. -/
theorem hNorm_at (x : FVec Ideal S32768x768 .f32) (gamma beta : FVec Ideal S768 .f32) (hg : ∀ k, gamma (ix1 k) = 1)
    (hb : ∀ k, beta (ix1 k) = 0) (r : Fin 32768) (k : Fin 768) :
    hNorm x gamma beta (ix2 r k) = normR (fun k => x (ix2 r k)) k := by
  pointwise [hNorm, hCentred_at, hVar_at]
  rw [hg, hb, mul_one, add_zero]
  simp only [normR]

/-- A hidden value, read off the array at zero bias. -/
theorem hHidden_at (n : FVec Ideal S32768x768 .f32) (W1 : FVec Ideal S768x32 .f32) (b1 : FVec Ideal S32 .f32)
    (hb : ∀ j, b1 (ix1 j) = 0) (r : Fin 32768) (j : Fin 32) :
    hHidden n W1 b1 (ix2 r j) = ∑ k, n (ix2 r k) * W1 (ix2 k j) := by
  pointwise [hHidden]
  rw [hb, add_zero]

/-- An activated value, read off the array. -/
theorem hGelu_at (h : FVec Ideal S32768x32 .f32) (r : Fin 32768) (j : Fin 32) :
    hGelu h (ix2 r j) = geluR (h (ix2 r j)) := by
  pointwise [hGelu]
  simp only [geluR]

/-- A logit from the activated values, read off the array at zero bias. -/
theorem hOut_at (g : FVec Ideal S32768x32 .f32) (W2 : FVec Ideal S32x64 .f32) (b2 : FVec Ideal S64 .f32)
    (hb : ∀ l, b2 (ix1 l) = 0) (r : Fin 32768) (l : Fin 64) :
    hOut g W2 b2 (ix2 r l) = ∑ j, g (ix2 r j) * W2 (ix2 j l) := by
  pointwise [hOut]
  rw [hb, add_zero, div_one_lit]

/-- The reference's logits, read off the array at unit scale, zero shift and zero biases. -/
theorem hLogits_at (x : FVec Ideal S32768x768 .f32) (gamma beta : FVec Ideal S768 .f32) (W1 : FVec Ideal S768x32 .f32)
    (b1 : FVec Ideal S32 .f32) (W2 : FVec Ideal S32x64 .f32) (b2 : FVec Ideal S64 .f32) (hg : ∀ k, gamma (ix1 k) = 1)
    (hb : ∀ k, beta (ix1 k) = 0) (hb1 : ∀ j, b1 (ix1 j) = 0) (hb2 : ∀ l, b2 (ix1 l) = 0) (r : Fin 32768) (l : Fin 64) :
    hLogits x gamma beta W1 b1 W2 b2 (ix2 r l)
      = logitsR (fun k => x (ix2 r k)) (fun k j => W1 (ix2 k j)) (fun j l => W2 (ix2 j l)) l := by
  simp only [hLogits, hOut_at _ _ _ hb2, hGelu_at, hHidden_at _ _ _ hb1, hNorm_at _ _ _ hg hb]
  rfl

end Cert.Router
-- ==== Proof.Router.Precondition.lean ====
/- What the precondition says of the argument arrays, entry by entry: the scale is one, the shift and the biases are zero,
   and in each row of logits the greatest is below +∞ and the three greatest descend strictly. That the input is real
   follows: a row with an infinite entry has equal logits. -/
module

public import proofs.«01_k».proof.Proof.Gen.Pre_no_tie
public import proofs.«01_k».proof.Proof.Router.HostTerms
public import proofs.«01_k».proof.Proof.Router.TopTwo

@[expose] public section

noncomputable section

namespace Cert.Router

open Idealize.ShloMosaic Cert.Pre_no_tie Cert.Pre_no_tie.Gen

/-- The first three entries of each row of logits in descending order. -/
def hValues (v : FVec Ideal S32768x64 .f32) : FVec Ideal S32768x3 .f32 :=
  (Host.topK S32768x3 1 (FloatOps.cmpfTotal .gt) v sliceFits_S32768x64_S32768x3).1

/-- The precondition's tests, of the small arrays and the three greatest logits of each row. -/
def hTests (gamma beta : FVec Ideal S768 .f32) (b1 : FVec Ideal S32 .f32) (b2 : FVec Ideal S64 .f32)
    (V : FVec Ideal S32768x3 .f32) :=
  fn_part2 beta b1 b2 V (cmpf .oeq gamma (broadcastInDim S768 ![] bcast_S_S768 (constant S_ .f32 0x3F800000#32)))
    (constant S_ .f32 0x00000000#32)

/-- The precondition is its tests at the small arrays and the three greatest logits of each row. -/
theorem fn_eq (x : FVec Ideal S32768x768 .f32) (gamma beta : FVec Ideal S768 .f32) (W1 : FVec Ideal S768x32 .f32)
    (b1 : FVec Ideal S32 .f32) (W2 : FVec Ideal S32x64 .f32) (b2 : FVec Ideal S64 .f32) :
    fn (F := Ideal) x gamma beta W1 b1 W2 b2
      = hTests gamma beta b1 b2 (hValues (hLogits x gamma beta W1 b1 W2 b2)) := rfl

/-- A decided bit that is set decides a truth. -/
theorem of_bit {p : Prop} [Decidable p] (h : BitVec.ofBool (decide p) = 1#1) : p := by
  by_contra hp
  simp [hp] at h

/-- The word of +∞ is the greatest extended real. -/
theorem inf_eq : Ideal.ofBits .f32 0x7F800000#32 = ⊤ := by simp [Ideal.ofBits, Ideal.ieee]

/-- The values' column `k`, read at a row. -/
theorem hValues_at (v : FVec Ideal S32768x64 .f32) (r : Fin 32768) (k : Fin 3) :
    hValues v (ix2 r k) = v (ix2 r (ord (fun l => v (ix2 r l)) (k.castLE (by norm_num)))) :=
  topValues_at (K := 3) (by norm_num) v sliceFits_S32768x64_S32768x3 r k

section Tests

variable (gamma beta : FVec Ideal S768 .f32) (b1 : FVec Ideal S32 .f32) (b2 : FVec Ideal S64 .f32)
  (V : FVec Ideal S32768x3 .f32)

/-- The first test: the scale is one. -/
theorem test_scale (k : Fin 768) (h : (hTests gamma beta b1 b2 V).1 (ix1 k) = 1#1) : gamma (ix1 k) = 1 := by
  pointwise [hTests, fn_part2] at h
  exact of_bit h

/-- The second test: the shift is zero. -/
theorem test_shift (k : Fin 768) (h : (hTests gamma beta b1 b2 V).2.1 (ix1 k) = 1#1) : beta (ix1 k) = 0 := by
  pointwise [hTests, fn_part2] at h
  exact of_bit h

/-- The third test: the first bias is zero. -/
theorem test_bias1 (j : Fin 32) (h : (hTests gamma beta b1 b2 V).2.2.1 (ix1 j) = 1#1) : b1 (ix1 j) = 0 := by
  pointwise [hTests, fn_part2] at h
  exact of_bit h

/-- The fourth test: the second bias is zero. -/
theorem test_bias2 (l : Fin 64) (h : (hTests gamma beta b1 b2 V).2.2.2.1 (ix1 l) = 1#1) : b2 (ix1 l) = 0 := by
  pointwise [hTests, fn_part2] at h
  exact of_bit h

/-- The fifth test: the greatest is below +∞. -/
theorem test_top (r : Fin 32768) (h : (hTests gamma beta b1 b2 V).2.2.2.2.1 (ix1 r) = 1#1) : V (ix2 r 0) < ⊤ := by
  pointwise [hTests, fn_part2] at h
  rw [← inf_eq]
  exact of_bit h

/-- The sixth test: the second greatest is below the greatest. -/
theorem test_second (r : Fin 32768) (h : (hTests gamma beta b1 b2 V).2.2.2.2.2.1 (ix1 r) = 1#1) :
    V (ix2 r 1) < V (ix2 r 0) := by
  pointwise [hTests, fn_part2] at h
  exact of_bit h

/-- The seventh test: the third greatest is below the second. -/
theorem test_third (r : Fin 32768) (h : (hTests gamma beta b1 b2 V).2.2.2.2.2.2 (ix1 r) = 1#1) :
    V (ix2 r 2) < V (ix2 r 1) := by
  pointwise [hTests, fn_part2] at h
  exact of_bit h

end Tests

/-- What the tests, all passed, say of the arrays. -/
structure Usable (x : FVec Ideal S32768x768 .f32) (gamma beta : FVec Ideal S768 .f32) (W1 : FVec Ideal S768x32 .f32)
    (b1 : FVec Ideal S32 .f32) (W2 : FVec Ideal S32x64 .f32) (b2 : FVec Ideal S64 .f32) : Prop where
  /-- The input's entries are real. -/
  real : ∀ r k, ∃ y : ℝ, x (ix2 r k) = (y : EReal)
  /-- The scale is one. -/
  scale : ∀ k, gamma (ix1 k) = 1
  /-- The shift is zero. -/
  shift : ∀ k, beta (ix1 k) = 0
  /-- The first bias is zero. -/
  bias1 : ∀ j, b1 (ix1 j) = 0
  /-- The second bias is zero. -/
  bias2 : ∀ l, b2 (ix1 l) = 0
  /-- In each row of logits the first two places in order hold the two strictly greatest entries. -/
  order : ∀ r, TwoGreatest (fun l => hLogits x gamma beta W1 b1 W2 b2 (ix2 r l))
    (ord (fun l => hLogits x gamma beta W1 b1 W2 b2 (ix2 r l)) 0)
    (ord (fun l => hLogits x gamma beta W1 b1 W2 b2 (ix2 r l)) 1)

/-- Arrays that pass every test are usable. -/
theorem usable_of_tests (x : FVec Ideal S32768x768 .f32) (gamma beta : FVec Ideal S768 .f32) (W1 : FVec Ideal S768x32 .f32)
    (b1 : FVec Ideal S32 .f32) (W2 : FVec Ideal S32x64 .f32) (b2 : FVec Ideal S64 .f32)
    (h : (fn (F := Ideal) x gamma beta W1 b1 W2 b2).1 = (fun _ => 1#1)
      ∧ (fn (F := Ideal) x gamma beta W1 b1 W2 b2).2.1 = (fun _ => 1#1)
      ∧ (fn (F := Ideal) x gamma beta W1 b1 W2 b2).2.2.1 = (fun _ => 1#1)
      ∧ (fn (F := Ideal) x gamma beta W1 b1 W2 b2).2.2.2.1 = (fun _ => 1#1)
      ∧ (fn (F := Ideal) x gamma beta W1 b1 W2 b2).2.2.2.2.1 = (fun _ => 1#1)
      ∧ (fn (F := Ideal) x gamma beta W1 b1 W2 b2).2.2.2.2.2.1 = (fun _ => 1#1)
      ∧ (fn (F := Ideal) x gamma beta W1 b1 W2 b2).2.2.2.2.2.2 = (fun _ => 1#1)) :
    Usable x gamma beta W1 b1 W2 b2 := by
  rw [fn_eq] at h
  obtain ⟨h1, h2, h3, h4, h5, h6, h7⟩ := h
  have scale : ∀ k, gamma (ix1 k) = 1 := fun k => test_scale _ _ _ _ _ k (congrFun h1 _)
  have shift : ∀ k, beta (ix1 k) = 0 := fun k => test_shift _ _ _ _ _ k (congrFun h2 _)
  have bias1 : ∀ j, b1 (ix1 j) = 0 := fun j => test_bias1 _ _ _ _ _ j (congrFun h3 _)
  have bias2 : ∀ l, b2 (ix1 l) = 0 := fun l => test_bias2 _ _ _ _ _ l (congrFun h4 _)
  have order : ∀ r, TwoGreatest (fun l => hLogits x gamma beta W1 b1 W2 b2 (ix2 r l))
      (ord (fun l => hLogits x gamma beta W1 b1 W2 b2 (ix2 r l)) 0)
      (ord (fun l => hLogits x gamma beta W1 b1 W2 b2 (ix2 r l)) 1) := fun r => by
    have t0 := test_top _ _ _ _ _ r (congrFun h5 _)
    have t1 := test_second _ _ _ _ _ r (congrFun h6 _)
    have t2 := test_third _ _ _ _ _ r (congrFun h7 _)
    rw [hValues_at] at t0
    rw [hValues_at, hValues_at] at t1 t2
    exact twoGreatest_ord _ t0 t1 t2
  refine ⟨fun r k => ?_, scale, shift, bias1, bias2, order⟩
  by_contra hk
  have t1 := test_second _ _ _ _ _ r (congrFun h6 _)
  rw [hValues_at, hValues_at, hLogits_at x gamma beta W1 b1 W2 b2 scale shift bias1 bias2,
    hLogits_at x gamma beta W1 b1 W2 b2 scale shift bias1 bias2,
    logitsR_infinite (fun k => x (ix2 r k)) hk, logitsR_infinite (fun k => x (ix2 r k)) hk] at t1
  exact lt_irrefl _ t1

end Cert.Router
-- ==== Proof.Router.Equation.lean ====
/- The reference's two results equal the kernel's two arrays at every input the precondition admits. -/
module

public import proofs.«01_k».proof.Proof.Gen.ReferenceIdeal.Run
public import proofs.«01_k».proof.Proof.Router.KernelArray
public import proofs.«01_k».proof.Proof.Router.HostMask
public import proofs.«01_k».proof.Proof.Router.Precondition

@[expose] public section

noncomputable section

namespace Cert.Router

open Idealize.ShloMosaic Idealize.ShloMosaic.TcCoe Idealize.SL.Sem

section Terms

variable (m : (ℓ : Loc Cert.ReferenceIdeal.nD Cert.ReferenceIdeal.τ Cert.ReferenceIdeal.sig) → Buf (Elt Ideal) ℓ)

/-- The reference's logits, of its argument arrays. -/
def logitsOf (c : Dev Cert.ReferenceIdeal.nD) :=
  hLogits (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))

/-- The reference's second result is the masked logits. -/
theorem second_result (c : Dev Cert.ReferenceIdeal.nD) :
    Cert.ReferenceIdeal.Value.res_out1 m c = hMasked (logitsOf m c) := rfl

/-- The reference's first result is the weights of the masked logits. -/
theorem first_result (c : Dev Cert.ReferenceIdeal.nD) :
    Cert.ReferenceIdeal.Value.res_out0 m c = hProbs (hMasked (logitsOf m c)) := rfl

end Terms

section Equal

variable {x : Vec Ideal Cert.KernelIdeal.S32768x768 .f32} {gamma beta : FVec Ideal Cert.ReferenceIdeal.S768 .f32}
  {W1 : Vec Ideal Cert.KernelIdeal.S768x32 .f32} {b1 : FVec Ideal Cert.ReferenceIdeal.S32 .f32}
  {W2 : Vec Ideal Cert.KernelIdeal.S32x64 .f32} {b2 : FVec Ideal Cert.ReferenceIdeal.S64 .f32}

/-- A row of the reference's logits is the kernel's row. -/
theorem row_eq (u : Usable x gamma beta W1 b1 W2 b2) (r : Fin 32768) :
    (fun l => hLogits x gamma beta W1 b1 W2 b2 (ix2 r l)) = rowK x W1 W2 r :=
  (funext fun l => hLogits_at x gamma beta W1 b1 W2 b2 u.scale u.shift u.bias1 u.bias2 r l).trans
    (logitsK_eq_logitsR _ (u.real r) _ _).symm

/-- The first two places in order of the kernel's row hold its two strictly greatest entries. -/
theorem row_order (u : Usable x gamma beta W1 b1 W2 b2) (r : Fin 32768) :
    TwoGreatest (rowK x W1 W2 r) (ord (rowK x W1 W2 r) 0) (ord (rowK x W1 W2 r) 1) := by
  rw [← row_eq u r]
  exact u.order r

/-- An entry of the masked logits is the one the kernel keeps. -/
theorem masked_at (u : Usable x gamma beta W1 b1 W2 b2) (r : Fin 32768) (l : Fin 64) :
    hMasked (hLogits x gamma beta W1 b1 W2 b2) (ix2 r l) = keepR (rowK x W1 W2 r) (ord (rowK x W1 W2 r) 0) (ord (rowK x W1 W2 r) 1) l := by
  rw [hMasked_at, row_eq u r]

/-- The masked logits are the same array. -/
theorem masked_eq (u : Usable x gamma beta W1 b1 W2 b2) :
    hMasked (hLogits x gamma beta W1 b1 W2 b2) = maskedK x W1 W2 := by
  funext i
  obtain ⟨r, l, rfl⟩ := idx_pair_array i
  exact (masked_at u r l).trans ((row_order u r).keep_eq l).symm

/-- The weights are the same array. -/
theorem probs_eq (u : Usable x gamma beta W1 b1 W2 b2) :
    hProbs (hMasked (hLogits x gamma beta W1 b1 W2 b2)) = probsK x W1 W2 := by
  funext i
  obtain ⟨r, l, rfl⟩ := idx_pair_array i
  refine (hProbs_at _ r l).trans (Eq.trans ?_ ((row_order u r).prob_eq l).symm)
  exact congrArg (fun w => softmaxR w l) (funext fun k => masked_at u r k)

end Equal

end Cert.Router
-- ==== Proof.lean ====
/- The kernel is a top-2 router: normalise each row of the input, multiply by a weight matrix, apply GELU, multiply by a
   second weight matrix, keep each row's two greatest logits and weigh the row by the softmax of what is kept. This file
   puts the claims together: the three programs end with their arguments and semaphore counters as they began, and the
   kernel and the reference end with equal results, both of them, at every input the precondition admits. The results
   are read off in `Proof/Router/`: `KernelArray` the kernel's, `HostTerms` and `HostMask` the reference's,
   `Precondition` what may be assumed, `Equation` that the results agree. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_no_tie
public import proofs.«01_k».proof.Proof.Router.Equation
public import Idealize.ShloMosaic.Adequacy
public import Idealize.ShloMosaic.Init

@[expose] public section

noncomputable section

namespace Cert.Proof

open Idealize.ShloMosaic Idealize.SL.Sem Cert.Router

/-- The kernel on words runs, keeps its arguments and returns every counter to zero. -/
theorem frame_kernel : Cert.quiescent_Kernel (hKernel := Cert.Kernel.Gen.facts) :=
  fun m ρ _ => Cert.Kernel.Gen.frame m ρ

/-- The kernel on extended reals runs, keeps its arguments and returns every counter to zero. -/
theorem frame_ideal : Cert.quiescent_KernelIdeal (hKernelIdeal := Cert.KernelIdeal.Gen.facts) :=
  fun m ρ _ => Cert.KernelIdeal.Gen.frame m ρ

/-- The reference on extended reals runs and keeps its arguments; it has no counters. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- The kernel and the reference end with the same weights and the same masked logits. -/
theorem same_results : Cert.algebraic_KernelIdeal_ReferenceIdeal_pre_no_tie (hKernelIdeal := Cert.KernelIdeal.Gen.facts)
    (hReferenceIdeal := Cert.ReferenceIdeal.Gen.facts) (hPre_no_tie := Cert.Pre_no_tie.Gen.facts) := by
  intro m g m' g' hpre hargs
  refine ⟨fun c => probsK (m (c.tc.loc Cert.KernelIdeal.main_arg0)) (m (c.tc.loc Cert.KernelIdeal.main_arg3))
      (m (c.tc.loc Cert.KernelIdeal.main_arg5)),
    fun c => maskedK (m (c.tc.loc Cert.KernelIdeal.main_arg0)) (m (c.tc.loc Cert.KernelIdeal.main_arg3))
      (m (c.tc.loc Cert.KernelIdeal.main_arg5)), ?_, ?_⟩
  · exact (θ_run Cert.KernelIdeal.defs _ _).mono
      (fun r h c => ⟨(h c).1.trans (final3 m c), (h c).2.1.trans (final4 m c), (h c).2.2⟩)
      (Cert.KernelIdeal.Value.run_blocks m g)
  · refine (θ_run Cert.ReferenceIdeal.defs _ _).mono (fun r h c => ⟨(h c).1.trans ?_, (h c).2.1.trans ?_, (h c).2.2⟩)
      (Cert.ReferenceIdeal.Value.run (F := Ideal) m' g')
    · refine (first_result m' c).trans ?_
      obtain ⟨a0, a1, a2, a3, a4, a5, a6⟩ := hargs c
      rw [logitsOf, a0, a1, a2, a3, a4, a5, a6]
      exact probs_eq (usable_of_tests _ _ _ _ _ _ _ (hpre c))
    · refine (second_result m' c).trans ?_
      obtain ⟨a0, a1, a2, a3, a4, a5, a6⟩ := hargs c
      rw [logitsOf, a0, a1, a2, a3, a4, a5, a6]
      exact masked_eq (usable_of_tests _ _ _ _ _ _ _ (hpre c))

/-- Every claim of the certificate. -/
theorem claim : Cert.Claim :=
  ⟨Cert.Kernel.Gen.facts, Cert.KernelIdeal.Gen.facts, Cert.ReferenceIdeal.Gen.facts, Cert.Pre_no_tie.Gen.facts,
    frame_kernel, frame_ideal, fun m ρ _ => frame_ideal m ρ trivial, frame_reference,
    fun m ρ _ => frame_reference m ρ trivial, trivial, same_results⟩

end Cert.Proof

end
